-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S2x4096x256 : Shape := ⟨3, ![2, 4096, 256]⟩
abbrev S4x1024x256 : Shape := ⟨3, ![4, 1024, 256]⟩
abbrev S2 : Shape := ⟨1, ![2]⟩
abbrev S6 : Shape := ⟨1, ![6]⟩
abbrev S_ : Shape := ⟨0, ![]⟩
abbrev S8x128 : Shape := ⟨2, ![8, 128]⟩
abbrev S3x8x128 : Shape := ⟨3, ![3, 8, 128]⟩
abbrev S3 : Shape := ⟨1, ![3]⟩
abbrev S1 : Shape := ⟨1, ![1]⟩
abbrev S1x4096x256 : Shape := ⟨3, ![1, 4096, 256]⟩
abbrev S4096x256 : Shape := ⟨2, ![4096, 256]⟩
abbrev S1024x512 : Shape := ⟨2, ![1024, 512]⟩
abbrev S1x1024x512 : Shape := ⟨3, ![1, 1024, 512]⟩
abbrev S1x1x1 : Shape := ⟨3, ![1, 1, 1]⟩
abbrev S1024x256 : Shape := ⟨2, ![1024, 256]⟩
abbrev S1x1024x256 : Shape := ⟨3, ![1, 1024, 256]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S2x4096x256, .f32⟩
  | .local _ .vmem, ⟨4, _⟩ => ⟨S2x4096x256, .f32⟩
  | .local _ .vmem, ⟨5, _⟩ => ⟨S4x1024x256, .f32⟩
  | .local _ .vmem, ⟨6, _⟩ => ⟨S8x128, .f32⟩
  | .local _ .vmem, ⟨7, _⟩ => ⟨S3x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 3 29 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch11 : Ref sig .tc := ⟨.vmem, 6, rfl⟩
abbrev cc0_scratch12 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22 : BitVec 32 := 1#32
  let v30 : BitVec 32 := Scalar.muli v24 c1_i32_22
  let v31 : BitVec 32 := Scalar.addi c0_i32_23 v30
  v31.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31 : BitVec 32 := 1#32
  let v39 : BitVec 32 := Scalar.muli v13 c1_i32_31
  let v40 : BitVec 32 := Scalar.addi c0_i32_32 v39
  v40.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v53 : BitVec 32 := Scalar.muli v2 c1024_i32
  let v54 : Index := Scalar.indexCast v53
  let c0_39 : Index := 0#32
  ![v54.toNat, 0]
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_65 : BitVec 32 := 1#32
  let v79 : BitVec 32 := Scalar.muli v24 c1_i32_65
  let v80 : BitVec 32 := Scalar.addi c0_i32_66 v79
  v80.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_75 : BitVec 32 := 1#32
  let v89 : BitVec 32 := Scalar.muli v13 c1_i32_75
  let v90 : BitVec 32 := Scalar.addi c0_i32_76 v89
  v90.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_94 : BitVec 32 := 1024#32
  let v114 : BitVec 32 := Scalar.muli v2 c1024_i32_94
  let c0_i32_100 : BitVec 32 := 0#32
  ![v114.toNat, 0]
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_98 : BitVec 32 := 1#32
  let v115 : BitVec 32 := Scalar.muli v13 c1_i32_98
  let v116 : BitVec 32 := Scalar.addi c0_i32_99 v115
  v116.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_115 : BitVec 32 := 1024#32
  let v139 : BitVec 32 := Scalar.muli v2 c1024_i32_115
  let c256_i32_120 : BitVec 32 := 256#32
  ![v139.toNat, 256]
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_118 : BitVec 32 := 1#32
  let v140 : BitVec 32 := Scalar.muli v24 c1_i32_118
  let v141 : BitVec 32 := Scalar.addi c0_i32_119 v140
  v141.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_141 : BitVec 32 := 1#32
  let v160 : BitVec 32 := Scalar.muli v13 c1_i32_141
  let v161 : BitVec 32 := Scalar.addi c0_i32_142 v160
  v161.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_161 : BitVec 32 := 1#32
  let v173 : BitVec 32 := Scalar.muli v24 c1_i32_161
  let v174 : BitVec 32 := Scalar.addi c0_i32_162 v173
  v174.toNat
def k0_dev11 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_196 : BitVec 32 := 1#32
  let v202 : BitVec 32 := Scalar.muli v24 c1_i32_196
  let v203 : BitVec 32 := Scalar.addi c0_i32_197 v202
  v203.toNat
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_208 : BitVec 32 := 1#32
  let v212 : BitVec 32 := Scalar.muli v13 c1_i32_208
  let v213 : BitVec 32 := Scalar.addi c0_i32_209 v212
  v213.toNat
def k0_dev13 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_183 : BitVec 32 := 2#32
  let v191 : BitVec 32 := Scalar.addi v2 c2_i32_183
  let c4_i32_184 : BitVec 32 := 4#32
  let c0_i32_185 : BitVec 32 := 0#32
  let v192 : BitVec 1 := Scalar.cmpi .eq c4_i32_184 c0_i32_185
  let c1_i32_186 : BitVec 32 := 1#32
  let v193 : BitVec 32 := Scalar.select v192 c1_i32_186 c4_i32_184
  let v194 : BitVec 32 := Scalar.remsi v191 v193
  let c0_i32_188 : BitVec 32 := 0#32
  let v196 : BitVec 1 := Scalar.cmpi .slt v194 c0_i32_188
  let c0_i32_189 : BitVec 32 := 0#32
  let v197 : BitVec 1 := Scalar.cmpi .slt v193 c0_i32_189
  let v198 : BitVec 1 := Scalar.xori v196 v197
  let c0_i32_187 : BitVec 32 := 0#32
  let v195 : BitVec 1 := Scalar.cmpi .ne v194 c0_i32_187
  let v199 : BitVec 1 := Scalar.andi v198 v195
  let v200 : BitVec 32 := Scalar.addi v194 v193
  let v201 : BitVec 32 := Scalar.select v199 v200 v194
  let c1_i32_230 : BitVec 32 := 1#32
  let v238 : BitVec 32 := Scalar.muli v201 c1_i32_230
  let v239 : BitVec 32 := Scalar.addi c0_i32_231 v238
  v239.toNat
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_183 : BitVec 32 := 2#32
  let v191 : BitVec 32 := Scalar.addi v2 c2_i32_183
  let c4_i32_184 : BitVec 32 := 4#32
  let c0_i32_185 : BitVec 32 := 0#32
  let v192 : BitVec 1 := Scalar.cmpi .eq c4_i32_184 c0_i32_185
  let c1_i32_186 : BitVec 32 := 1#32
  let v193 : BitVec 32 := Scalar.select v192 c1_i32_186 c4_i32_184
  let v194 : BitVec 32 := Scalar.remsi v191 v193
  let c0_i32_188 : BitVec 32 := 0#32
  let v196 : BitVec 1 := Scalar.cmpi .slt v194 c0_i32_188
  let c0_i32_189 : BitVec 32 := 0#32
  let v197 : BitVec 1 := Scalar.cmpi .slt v193 c0_i32_189
  let v198 : BitVec 1 := Scalar.xori v196 v197
  let c0_i32_187 : BitVec 32 := 0#32
  let v195 : BitVec 1 := Scalar.cmpi .ne v194 c0_i32_187
  let v199 : BitVec 1 := Scalar.andi v198 v195
  let v200 : BitVec 32 := Scalar.addi v194 v193
  let v201 : BitVec 32 := Scalar.select v199 v200 v194
  let c1_i32_250 : BitVec 32 := 1#32
  let v263 : BitVec 32 := Scalar.muli v201 c1_i32_250
  let v264 : BitVec 32 := Scalar.addi c0_i32_251 v263
  v264.toNat
def k0_dev15 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_299 : BitVec 32 := 1#32
  let v309 : BitVec 32 := Scalar.muli v24 c1_i32_299
  let v310 : BitVec 32 := Scalar.addi c0_i32_300 v309
  v310.toNat
def k0_dev16 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_328 : BitVec 32 := 1#32
  let v339 : BitVec 32 := Scalar.muli v13 c1_i32_328
  let v340 : BitVec 32 := Scalar.addi c0_i32_329 v339
  v340.toNat
def k0_dev17 (d0 : Dev nD) : Nat :=
  let c0_i32_346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_335 : BitVec 32 := 1#32
  let v358 : BitVec 32 := Scalar.addi v2 c1_i32_335
  let c4_i32_336 : BitVec 32 := 4#32
  let c0_i32_337 : BitVec 32 := 0#32
  let v359 : BitVec 1 := Scalar.cmpi .eq c4_i32_336 c0_i32_337
  let c1_i32_338 : BitVec 32 := 1#32
  let v360 : BitVec 32 := Scalar.select v359 c1_i32_338 c4_i32_336
  let v361 : BitVec 32 := Scalar.remsi v358 v360
  let c0_i32_340 : BitVec 32 := 0#32
  let v363 : BitVec 1 := Scalar.cmpi .slt v361 c0_i32_340
  let c0_i32_341 : BitVec 32 := 0#32
  let v364 : BitVec 1 := Scalar.cmpi .slt v360 c0_i32_341
  let v365 : BitVec 1 := Scalar.xori v363 v364
  let c0_i32_339 : BitVec 32 := 0#32
  let v362 : BitVec 1 := Scalar.cmpi .ne v361 c0_i32_339
  let v366 : BitVec 1 := Scalar.andi v365 v362
  let v367 : BitVec 32 := Scalar.addi v361 v360
  let v368 : BitVec 32 := Scalar.select v366 v367 v361
  let c1_i32_345 : BitVec 32 := 1#32
  let v369 : BitVec 32 := Scalar.muli v368 c1_i32_345
  let v370 : BitVec 32 := Scalar.addi c0_i32_346 v369
  v370.toNat
def k0_dev18 (d0 : Dev nD) : Nat :=
  let c0_i32_360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_349 : BitVec 32 := 2#32
  let v377 : BitVec 32 := Scalar.addi v2 c2_i32_349
  let c4_i32_350 : BitVec 32 := 4#32
  let c0_i32_351 : BitVec 32 := 0#32
  let v378 : BitVec 1 := Scalar.cmpi .eq c4_i32_350 c0_i32_351
  let c1_i32_352 : BitVec 32 := 1#32
  let v379 : BitVec 32 := Scalar.select v378 c1_i32_352 c4_i32_350
  let v380 : BitVec 32 := Scalar.remsi v377 v379
  let c0_i32_354 : BitVec 32 := 0#32
  let v382 : BitVec 1 := Scalar.cmpi .slt v380 c0_i32_354
  let c0_i32_355 : BitVec 32 := 0#32
  let v383 : BitVec 1 := Scalar.cmpi .slt v379 c0_i32_355
  let v384 : BitVec 1 := Scalar.xori v382 v383
  let c0_i32_353 : BitVec 32 := 0#32
  let v381 : BitVec 1 := Scalar.cmpi .ne v380 c0_i32_353
  let v385 : BitVec 1 := Scalar.andi v384 v381
  let v386 : BitVec 32 := Scalar.addi v380 v379
  let v387 : BitVec 32 := Scalar.select v385 v386 v380
  let c1_i32_359 : BitVec 32 := 1#32
  let v388 : BitVec 32 := Scalar.muli v387 c1_i32_359
  let v389 : BitVec 32 := Scalar.addi c0_i32_360 v388
  v389.toNat
def k0_dev19 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_363 : BitVec 32 := 3#32
  let v396 : BitVec 32 := Scalar.addi v2 c3_i32_363
  let c4_i32_364 : BitVec 32 := 4#32
  let c0_i32_365 : BitVec 32 := 0#32
  let v397 : BitVec 1 := Scalar.cmpi .eq c4_i32_364 c0_i32_365
  let c1_i32_366 : BitVec 32 := 1#32
  let v398 : BitVec 32 := Scalar.select v397 c1_i32_366 c4_i32_364
  let v399 : BitVec 32 := Scalar.remsi v396 v398
  let c0_i32_368 : BitVec 32 := 0#32
  let v401 : BitVec 1 := Scalar.cmpi .slt v399 c0_i32_368
  let c0_i32_369 : BitVec 32 := 0#32
  let v402 : BitVec 1 := Scalar.cmpi .slt v398 c0_i32_369
  let v403 : BitVec 1 := Scalar.xori v401 v402
  let c0_i32_367 : BitVec 32 := 0#32
  let v400 : BitVec 1 := Scalar.cmpi .ne v399 c0_i32_367
  let v404 : BitVec 1 := Scalar.andi v403 v400
  let v405 : BitVec 32 := Scalar.addi v399 v398
  let v406 : BitVec 32 := Scalar.select v404 v405 v399
  let c1_i32_373 : BitVec 32 := 1#32
  let v407 : BitVec 32 := Scalar.muli v406 c1_i32_373
  let v408 : BitVec 32 := Scalar.addi c0_i32_374 v407
  v408.toNat
def k0_off4 (d0 : Dev nD) (c1_i32_471 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v486 : BitVec 32 := Scalar.addi v2 c1_i32_471
  let c4_i32_472 : BitVec 32 := 4#32
  let c0_i32_473 : BitVec 32 := 0#32
  let v487 : BitVec 1 := Scalar.cmpi .eq c4_i32_472 c0_i32_473
  let c1_i32_474 : BitVec 32 := 1#32
  let v488 : BitVec 32 := Scalar.select v487 c1_i32_474 c4_i32_472
  let v489 : BitVec 32 := Scalar.remsi v486 v488
  let c0_i32_476 : BitVec 32 := 0#32
  let v491 : BitVec 1 := Scalar.cmpi .slt v489 c0_i32_476
  let c0_i32_477 : BitVec 32 := 0#32
  let v492 : BitVec 1 := Scalar.cmpi .slt v488 c0_i32_477
  let v493 : BitVec 1 := Scalar.xori v491 v492
  let c0_i32_475 : BitVec 32 := 0#32
  let v490 : BitVec 1 := Scalar.cmpi .ne v489 c0_i32_475
  let v494 : BitVec 1 := Scalar.andi v493 v490
  let v495 : BitVec 32 := Scalar.addi v489 v488
  let v496 : BitVec 32 := Scalar.select v494 v495 v489
  let c1024_i32_478 : BitVec 32 := 1024#32
  let v497 : BitVec 32 := Scalar.muli v496 c1024_i32_478
  let c0_i32_484 : BitVec 32 := 0#32
  ![v497.toNat, 0]
def k0_off5 (d0 : Dev nD) (c1_i32_487 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v505 : BitVec 32 := Scalar.addi v2 c1_i32_487
  let c4_i32_488 : BitVec 32 := 4#32
  let c0_i32_489 : BitVec 32 := 0#32
  let v506 : BitVec 1 := Scalar.cmpi .eq c4_i32_488 c0_i32_489
  let c1_i32_490 : BitVec 32 := 1#32
  let v507 : BitVec 32 := Scalar.select v506 c1_i32_490 c4_i32_488
  let v508 : BitVec 32 := Scalar.remsi v505 v507
  let c0_i32_492 : BitVec 32 := 0#32
  let v510 : BitVec 1 := Scalar.cmpi .slt v508 c0_i32_492
  let c0_i32_493 : BitVec 32 := 0#32
  let v511 : BitVec 1 := Scalar.cmpi .slt v507 c0_i32_493
  let v512 : BitVec 1 := Scalar.xori v510 v511
  let c0_i32_491 : BitVec 32 := 0#32
  let v509 : BitVec 1 := Scalar.cmpi .ne v508 c0_i32_491
  let v513 : BitVec 1 := Scalar.andi v512 v509
  let v514 : BitVec 32 := Scalar.addi v508 v507
  let v515 : BitVec 32 := Scalar.select v513 v514 v508
  let c1024_i32_494 : BitVec 32 := 1024#32
  let v516 : BitVec 32 := Scalar.muli v515 c1024_i32_494
  let c256_i32_500 : BitVec 32 := 256#32
  ![v516.toNat, 256]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Places.lean ====
/-
# Where things are

The four devices stand on a ring. This module names the neighbours of a device, the windows of the buffers
that the copies read and write, and the elements each window covers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring -/

/-- The device `k` places to the right of `c`. -/
def fwd (k : Fin 4) (c : Dev nD) : Dev nD := ⟨(c.val + k.val) % 4, Nat.mod_lt _ (by decide)⟩

/-- The right neighbour, the device opposite, the left neighbour. -/
abbrev rt (c : Dev nD) : Dev nD := fwd 1 c
abbrev op (c : Dev nD) : Dev nD := fwd 2 c
abbrev lf (c : Dev nD) : Dev nD := fwd 3 c

theorem fwd_fwd (j k : Fin 4) (c : Dev nD) : fwd j (fwd k c) = fwd (j + k) c := by
  revert j k c; decide

theorem fwd_zero (c : Dev nD) : fwd 0 c = c := by revert c; decide

@[simp] theorem rt_lf (c : Dev nD) : rt (lf c) = c := by revert c; decide
@[simp] theorem lf_rt (c : Dev nD) : lf (rt c) = c := by revert c; decide
@[simp] theorem op_op (c : Dev nD) : op (op c) = c := by revert c; decide
@[simp] theorem lf_lf (c : Dev nD) : lf (lf c) = op c := by revert c; decide
@[simp] theorem rt_rt (c : Dev nD) : rt (rt c) = op c := by revert c; decide
@[simp] theorem rt_op (c : Dev nD) : rt (op c) = lf c := by revert c; decide
@[simp] theorem lf_op (c : Dev nD) : lf (op c) = rt c := by revert c; decide
@[simp] theorem op_rt (c : Dev nD) : op (rt c) = lf c := by revert c; decide
@[simp] theorem op_lf (c : Dev nD) : op (lf c) = rt c := by revert c; decide

/-- Going `k` places to the right permutes the devices. -/
def turn (k : Fin 4) : Dev nD ≃ Dev nD where
  toFun := fwd k
  invFun := fwd (-k)
  left_inv c := by revert k c; decide
  right_inv c := by revert k c; decide

@[simp] theorem turn_apply (k : Fin 4) (c : Dev nD) : turn k c = fwd k c := rfl

/-! ## The devices that the kernel addresses -/

theorem dev1 (c : Dev nD) : (⟨k0_dev1 c, k0_dev1_lt c⟩ : Dev nD) = lf c := by revert c; decide +kernel
theorem dev2 (c : Dev nD) : (⟨k0_dev2 c, k0_dev2_lt c⟩ : Dev nD) = rt c := by revert c; decide +kernel
theorem dev3 (c : Dev nD) : (⟨k0_dev3 c, k0_dev3_lt c⟩ : Dev nD) = rt c := by revert c; decide +kernel
theorem dev4 (c : Dev nD) : (⟨k0_dev4 c, k0_dev4_lt c⟩ : Dev nD) = lf c := by revert c; decide +kernel
theorem dev5 (c : Dev nD) : (⟨k0_dev5 c, k0_dev5_lt c⟩ : Dev nD) = rt c := by revert c; decide +kernel
theorem dev6 (c : Dev nD) : (⟨k0_dev6 c, k0_dev6_lt c⟩ : Dev nD) = lf c := by revert c; decide +kernel
theorem dev7 (c : Dev nD) : (⟨k0_dev7 c, k0_dev7_lt c⟩ : Dev nD) = lf c := by revert c; decide +kernel
theorem dev8 (c : Dev nD) : (⟨k0_dev8 c, k0_dev8_lt c⟩ : Dev nD) = rt c := by revert c; decide +kernel
theorem dev9 (c : Dev nD) : (⟨k0_dev9 c, k0_dev9_lt c⟩ : Dev nD) = lf c := by revert c; decide +kernel
theorem dev10 (c : Dev nD) : (⟨k0_dev10 c, k0_dev10_lt c⟩ : Dev nD) = rt c := by revert c; decide +kernel
theorem dev11 (c : Dev nD) : (⟨k0_dev11 c, k0_dev11_lt c⟩ : Dev nD) = rt c := by revert c; decide +kernel
theorem dev12 (c : Dev nD) : (⟨k0_dev12 c, k0_dev12_lt c⟩ : Dev nD) = lf c := by revert c; decide +kernel
theorem dev13 (c : Dev nD) : (⟨k0_dev13 c, k0_dev13_lt c⟩ : Dev nD) = op c := by revert c; decide +kernel
theorem dev14 (c : Dev nD) : (⟨k0_dev14 c, k0_dev14_lt c⟩ : Dev nD) = op c := by revert c; decide +kernel
theorem dev15 (c : Dev nD) : (⟨k0_dev15 c, k0_dev15_lt c⟩ : Dev nD) = rt c := by revert c; decide +kernel
theorem dev16 (c : Dev nD) : (⟨k0_dev16 c, k0_dev16_lt c⟩ : Dev nD) = lf c := by revert c; decide +kernel
theorem dev17 (c : Dev nD) : (⟨k0_dev17 c, k0_dev17_lt c⟩ : Dev nD) = rt c := by revert c; decide +kernel
theorem dev18 (c : Dev nD) : (⟨k0_dev18 c, k0_dev18_lt c⟩ : Dev nD) = op c := by revert c; decide +kernel
theorem dev19 (c : Dev nD) : (⟨k0_dev19 c, k0_dev19_lt c⟩ : Dev nD) = lf c := by revert c; decide +kernel

theorem off1 (c : Dev nD) : k0_off1 c = ![1024 * c.val, 0] := by revert c; decide +kernel
theorem off2 (c : Dev nD) : k0_off2 c = ![1024 * c.val, 0] := by revert c; decide +kernel
theorem off3 (c : Dev nD) : k0_off3 c = ![1024 * c.val, 256] := by revert c; decide +kernel

/-! ## The buffers and their windows -/

/-- The staged blocks of the two operands and of the result, the two buffers of right-hand blocks going
    around the ring each way, the buffer of products on their way out, and the two buffers of the
    largest magnitudes. -/
abbrev xM : Memref sig .tc .vmem S1024x4096 .f32 := Memref.whole cc0_stg0_0
abbrev wM : Memref sig .tc .vmem S4096x512 .f32 := Memref.whole cc0_stg1_0
abbrev oM : Memref sig .tc .vmem S4096x512 .f32 := Memref.whole cc0_stg2_0
abbrev aM : Memref sig .tc .vmem S2x4096x256 .f32 := Memref.whole cc0_scratch0
abbrev bM : Memref sig .tc .vmem S2x4096x256 .f32 := Memref.whole cc0_scratch1
abbrev pM : Memref sig .tc .vmem S4x1024x256 .f32 := Memref.whole cc0_scratch2
abbrev tM : Memref sig .tc .vmem S8x128 .f32 := Memref.whole cc0_scratch11
abbrev gM : Memref sig .tc .vmem S3x8x128 .f32 := Memref.whole cc0_scratch12

/-- The two halves of the columns of a device's own right-hand block. -/
abbrev wLo : Memref sig .tc .vmem S4096x256 .f32 := wM.slice (Rect.unit (s := S4096x512) ![0, 0] S4096x256.size inb_S4096x512_S4096x256_0_0) (fun _ => rfl)
abbrev wHi : Memref sig .tc .vmem S4096x256 .f32 := wM.slice (Rect.unit (s := S4096x512) ![0, 256] S4096x256.size inb_S4096x512_S4096x256_0_256) (fun _ => rfl)

/-- The two slots of each ring buffer. -/
abbrev a0 : Memref sig .tc .vmem S4096x256 .f32 := (aM.slice (Rect.unit (s := S2x4096x256) ![0, 0, 0] S1x4096x256.size inb_S2x4096x256_S1x4096x256_0_0_0) (fun _ => rfl)).squeeze S4096x256 squeezes_S1x4096x256_S4096x256
abbrev a1 : Memref sig .tc .vmem S4096x256 .f32 := (aM.slice (Rect.unit (s := S2x4096x256) ![1, 0, 0] S1x4096x256.size inb_S2x4096x256_S1x4096x256_1_0_0) (fun _ => rfl)).squeeze S4096x256 squeezes_S1x4096x256_S4096x256
abbrev b0 : Memref sig .tc .vmem S4096x256 .f32 := (bM.slice (Rect.unit (s := S2x4096x256) ![0, 0, 0] S1x4096x256.size inb_S2x4096x256_S1x4096x256_0_0_0) (fun _ => rfl)).squeeze S4096x256 squeezes_S1x4096x256_S4096x256
abbrev b1 : Memref sig .tc .vmem S4096x256 .f32 := (bM.slice (Rect.unit (s := S2x4096x256) ![1, 0, 0] S1x4096x256.size inb_S2x4096x256_S1x4096x256_1_0_0) (fun _ => rfl)).squeeze S4096x256 squeezes_S1x4096x256_S4096x256

/-- The four slots of the buffer of products. -/
abbrev p0 : Memref sig .tc .vmem S1024x256 .f32 := (pM.slice (Rect.unit (s := S4x1024x256) ![0, 0, 0] S1x1024x256.size inb_S4x1024x256_S1x1024x256_0_0_0) (fun _ => rfl)).squeeze S1024x256 squeezes_S1x1024x256_S1024x256
abbrev p1 : Memref sig .tc .vmem S1024x256 .f32 := (pM.slice (Rect.unit (s := S4x1024x256) ![1, 0, 0] S1x1024x256.size inb_S4x1024x256_S1x1024x256_1_0_0) (fun _ => rfl)).squeeze S1024x256 squeezes_S1x1024x256_S1024x256
abbrev p2 : Memref sig .tc .vmem S1024x256 .f32 := (pM.slice (Rect.unit (s := S4x1024x256) ![2, 0, 0] S1x1024x256.size inb_S4x1024x256_S1x1024x256_2_0_0) (fun _ => rfl)).squeeze S1024x256 squeezes_S1x1024x256_S1024x256
abbrev p3 : Memref sig .tc .vmem S1024x256 .f32 := (pM.slice (Rect.unit (s := S4x1024x256) ![3, 0, 0] S1x1024x256.size inb_S4x1024x256_S1x1024x256_3_0_0) (fun _ => rfl)).squeeze S1024x256 squeezes_S1x1024x256_S1024x256

/-- The rows of the result that the products of device `e`'s rows fill: left half, right half, whole. -/
abbrev oLo (e : Dev nD) : Memref sig .tc .vmem S1024x256 .f32 := oM.slice (Rect.unit (s := S4096x512) (k0_off2 e) S1024x256.size (k0_off2_inb e)) (fun _ => rfl)
abbrev oHi (e : Dev nD) : Memref sig .tc .vmem S1024x256 .f32 := oM.slice (Rect.unit (s := S4096x512) (k0_off3 e) S1024x256.size (k0_off3_inb e)) (fun _ => rfl)
abbrev oRow (e : Dev nD) : Memref sig .tc .vmem S1024x512 .f32 := oM.slice (Rect.unit (s := S4096x512) (k0_off1 e) S1024x512.size (k0_off1_inb e)) (fun _ => rfl)

/-- The three slots for the other devices' largest magnitudes. -/
abbrev g0 : Memref sig .tc .vmem S8x128 .f32 := (gM.slice (Rect.unit (s := S3x8x128) ![0, 0, 0] S1x8x128.size inb_S3x8x128_S1x8x128_0_0_0) (fun _ => rfl)).squeeze S8x128 squeezes_S1x8x128_S8x128
abbrev g1 : Memref sig .tc .vmem S8x128 .f32 := (gM.slice (Rect.unit (s := S3x8x128) ![1, 0, 0] S1x8x128.size inb_S3x8x128_S1x8x128_1_0_0) (fun _ => rfl)).squeeze S8x128 squeezes_S1x8x128_S8x128
abbrev g2 : Memref sig .tc .vmem S8x128 .f32 := (gM.slice (Rect.unit (s := S3x8x128) ![2, 0, 0] S1x8x128.size inb_S3x8x128_S1x8x128_2_0_0) (fun _ => rfl)).squeeze S8x128 squeezes_S1x8x128_S8x128

/-! ## What each window covers -/

/-- A slot of a three-axis buffer, as a window, covers the elements whose first coordinate is the slot. -/
theorem wLo_set : wLo.view.set = (Rect.unit (s := S4096x512) ![0, 0] S4096x256.size inb_S4096x512_S4096x256_0_0).set := View.set_slice_whole _ _
theorem wHi_set : wHi.view.set = (Rect.unit (s := S4096x512) ![0, 256] S4096x256.size inb_S4096x512_S4096x256_0_256).set := View.set_slice_whole _ _
theorem a0_set : a0.view.set = (Rect.unit (s := S2x4096x256) ![0, 0, 0] S1x4096x256.size inb_S2x4096x256_S1x4096x256_0_0_0).set := (View.set_reshape _ _).trans (View.set_slice_whole _ _)
theorem a1_set : a1.view.set = (Rect.unit (s := S2x4096x256) ![1, 0, 0] S1x4096x256.size inb_S2x4096x256_S1x4096x256_1_0_0).set := (View.set_reshape _ _).trans (View.set_slice_whole _ _)
theorem b0_set : b0.view.set = (Rect.unit (s := S2x4096x256) ![0, 0, 0] S1x4096x256.size inb_S2x4096x256_S1x4096x256_0_0_0).set := (View.set_reshape _ _).trans (View.set_slice_whole _ _)
theorem b1_set : b1.view.set = (Rect.unit (s := S2x4096x256) ![1, 0, 0] S1x4096x256.size inb_S2x4096x256_S1x4096x256_1_0_0).set := (View.set_reshape _ _).trans (View.set_slice_whole _ _)
theorem p0_set : p0.view.set = (Rect.unit (s := S4x1024x256) ![0, 0, 0] S1x1024x256.size inb_S4x1024x256_S1x1024x256_0_0_0).set := (View.set_reshape _ _).trans (View.set_slice_whole _ _)
theorem p1_set : p1.view.set = (Rect.unit (s := S4x1024x256) ![1, 0, 0] S1x1024x256.size inb_S4x1024x256_S1x1024x256_1_0_0).set := (View.set_reshape _ _).trans (View.set_slice_whole _ _)
theorem p2_set : p2.view.set = (Rect.unit (s := S4x1024x256) ![2, 0, 0] S1x1024x256.size inb_S4x1024x256_S1x1024x256_2_0_0).set := (View.set_reshape _ _).trans (View.set_slice_whole _ _)
theorem p3_set : p3.view.set = (Rect.unit (s := S4x1024x256) ![3, 0, 0] S1x1024x256.size inb_S4x1024x256_S1x1024x256_3_0_0).set := (View.set_reshape _ _).trans (View.set_slice_whole _ _)
theorem oLo_set (e : Dev nD) : (oLo e).view.set = (Rect.unit (s := S4096x512) (k0_off2 e) S1024x256.size (k0_off2_inb e)).set := View.set_slice_whole _ _
theorem oHi_set (e : Dev nD) : (oHi e).view.set = (Rect.unit (s := S4096x512) (k0_off3 e) S1024x256.size (k0_off3_inb e)).set := View.set_slice_whole _ _
theorem oRow_set (e : Dev nD) : (oRow e).view.set = (Rect.unit (s := S4096x512) (k0_off1 e) S1024x512.size (k0_off1_inb e)).set := View.set_slice_whole _ _
theorem g0_set : g0.view.set = (Rect.unit (s := S3x8x128) ![0, 0, 0] S1x8x128.size inb_S3x8x128_S1x8x128_0_0_0).set := (View.set_reshape _ _).trans (View.set_slice_whole _ _)
theorem g1_set : g1.view.set = (Rect.unit (s := S3x8x128) ![1, 0, 0] S1x8x128.size inb_S3x8x128_S1x8x128_1_0_0).set := (View.set_reshape _ _).trans (View.set_slice_whole _ _)
theorem g2_set : g2.view.set = (Rect.unit (s := S3x8x128) ![2, 0, 0] S1x8x128.size inb_S3x8x128_S1x8x128_2_0_0).set := (View.set_reshape _ _).trans (View.set_slice_whole _ _)

theorem mem_wLo (i : S4096x512.Idx) : i ∈ wLo.view.set ↔ (i 1).val < 256 := by
  rw [wLo_set, Rect.mem_set_unit, Fin.forall_fin_two]
  have h0 := (i 0).isLt; have h1 := (i 1).isLt
  constructor
  · rintro ⟨-, -, h⟩; exact h
  · intro h; exact ⟨⟨Nat.zero_le _, by simpa using h0⟩, Nat.zero_le _, by simpa using h⟩

theorem mem_wHi (i : S4096x512.Idx) : i ∈ wHi.view.set ↔ 256 ≤ (i 1).val := by
  rw [wHi_set, Rect.mem_set_unit, Fin.forall_fin_two]
  have h0 := (i 0).isLt; have h1 := (i 1).isLt
  constructor
  · rintro ⟨-, h, -⟩; exact h
  · intro h; exact ⟨⟨Nat.zero_le _, by simpa using h0⟩, h, by simpa using h1⟩

/-- Membership in a slot of a three-axis buffer. -/
theorem mem_slot {n a b k : ℕ} (inb : ∀ d, (![k, 0, 0] : Fin 3 → ℕ) d + (⟨3, ![1, a, b]⟩ : Shape).size d ≤ (⟨3, ![n, a, b]⟩ : Shape).size d)
    (i : (⟨3, ![n, a, b]⟩ : Shape).Idx) :
    i ∈ (Rect.unit (s := ⟨3, ![n, a, b]⟩) ![k, 0, 0] (⟨3, ![1, a, b]⟩ : Shape).size inb).set ↔ (i 0).val = k := by
  rw [Rect.mem_set_unit]
  have h1 := (i 1).isLt; have h2 := (i 2).isLt
  constructor
  · intro h; have := h 0; simp at this; omega
  · intro h d
    match d with
    | 0 => simp; omega
    | 1 => exact ⟨Nat.zero_le _, by simpa using h1⟩
    | 2 => exact ⟨Nat.zero_le _, by simpa using h2⟩

theorem mem_a0 (i : S2x4096x256.Idx) : i ∈ a0.view.set ↔ (i 0).val = 0 := by rw [a0_set]; exact mem_slot _ i
theorem mem_a1 (i : S2x4096x256.Idx) : i ∈ a1.view.set ↔ (i 0).val = 1 := by rw [a1_set]; exact mem_slot _ i
theorem mem_b0 (i : S2x4096x256.Idx) : i ∈ b0.view.set ↔ (i 0).val = 0 := by rw [b0_set]; exact mem_slot _ i
theorem mem_b1 (i : S2x4096x256.Idx) : i ∈ b1.view.set ↔ (i 0).val = 1 := by rw [b1_set]; exact mem_slot _ i
theorem mem_p0 (i : S4x1024x256.Idx) : i ∈ p0.view.set ↔ (i 0).val = 0 := by rw [p0_set]; exact mem_slot _ i
theorem mem_p1 (i : S4x1024x256.Idx) : i ∈ p1.view.set ↔ (i 0).val = 1 := by rw [p1_set]; exact mem_slot _ i
theorem mem_p2 (i : S4x1024x256.Idx) : i ∈ p2.view.set ↔ (i 0).val = 2 := by rw [p2_set]; exact mem_slot _ i
theorem mem_p3 (i : S4x1024x256.Idx) : i ∈ p3.view.set ↔ (i 0).val = 3 := by rw [p3_set]; exact mem_slot _ i
theorem mem_g0 (i : S3x8x128.Idx) : i ∈ g0.view.set ↔ (i 0).val = 0 := by rw [g0_set]; exact mem_slot _ i
theorem mem_g1 (i : S3x8x128.Idx) : i ∈ g1.view.set ↔ (i 0).val = 1 := by rw [g1_set]; exact mem_slot _ i
theorem mem_g2 (i : S3x8x128.Idx) : i ∈ g2.view.set ↔ (i 0).val = 2 := by rw [g2_set]; exact mem_slot _ i

theorem mem_oLo (e : Dev nD) (i : S4096x512.Idx) : i ∈ (oLo e).view.set ↔ (i 0).val / 1024 = e.val ∧ (i 1).val < 256 := by
  rw [oLo_set, Rect.mem_set_unit, Fin.forall_fin_two, off2]
  simp
  omega
theorem mem_oHi (e : Dev nD) (i : S4096x512.Idx) : i ∈ (oHi e).view.set ↔ (i 0).val / 1024 = e.val ∧ 256 ≤ (i 1).val := by
  rw [oHi_set, Rect.mem_set_unit, Fin.forall_fin_two, off3]
  have h1 : (i 1).val < 512 := (i 1).isLt
  simp
  omega
theorem mem_oRow (e : Dev nD) (i : S4096x512.Idx) : i ∈ (oRow e).view.set ↔ (i 0).val / 1024 = e.val := by
  rw [oRow_set, Rect.mem_set_unit, Fin.forall_fin_two, off1]
  have h1 : (i 1).val < 512 := (i 1).isLt
  simp
  omega

end Cert.RingGemm

end
-- ==== Proof.Holds.lean ====
/-
# What a window holds

`mv c M q V` says that on device `c` the window `M` holds the values `V`, owned with share `q`. This module
states how such a fact splits into shares, how it arises when a copy lands or a store is made, and how a
load reads it.
-/
module

public import proofs.«01_k».proof.Proof.Places

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of a round protocol whose duties are named by a Boolean. -/
abbrev UB : Type := URounds (GSem nD τ sig) Bool
/-- The launch's ghost state beside the ring's. -/
abbrev UU : Type := UR sig nD τ × UB

local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) := embR

variable (m : (ℓ : Loc nD τ sig) → Buf (Elt F) ℓ)

/-- The window `M` of device `c` holds `V`, owned with share `q`. -/
def mv {s : Shape} {e : EltTy} (c : Dev nD) (M : Memref sig .tc .vmem s e) (q : PosShare TreeShare) (V : s.Idx → Elt F e) : sProp 𝕄 :=
  M.view.loc (c : Thread nD τ) ↦[M.view.set]{q} (M.view.write (Elt F) (m (M.view.loc (c : Thread nD τ))) V Finset.univ)

/-- The window is wholly owned and holds something. -/
def any {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

instance {s : Shape} {e : EltTy} (c : Dev nD) (M : Memref sig .tc .vmem s e) (q : PosShare TreeShare) (V : s.Idx → Elt F e) :
    BI.Storable (upEmb : UEmb _ 𝕄) (mv m c M q V) := by unfold mv; infer_instance

instance {s : Shape} {e : EltTy} (c : Dev nD) (M : Memref sig .tc .vmem s e) :
    BI.Storable (upEmb : UEmb _ 𝕄) (any (F := F) c M) := by unfold any; infer_instance

/-- Two buffers that read alike through a window agree on what the window covers. -/
theorem eq_on_of_read {s : Shape} {e : EltTy} {v : View sig .tc .vmem s e} {f g : v.ty.Contents (Elt F)}
    (h : v.read (Elt F) f = v.read (Elt F) g) : ∀ i ∈ v.set, f i = g i := by
  intro i hi
  obtain ⟨x, -, rfl⟩ := Finset.mem_map.1 hi
  have := congrFun h x
  simpa only [View.read_apply, cast_inj] using this

/-- Owning a buffer on a window's elements is the window holding what it reads there. -/
theorem mv_of_read {s : Shape} {e : EltTy} (c : Dev nD) (M : Memref sig .tc .vmem s e) (q : PosShare TreeShare)
    (f : Buf (Elt F) (M.view.loc (c : Thread nD τ))) (V : s.Idx → Elt F e) (h : M.view.read (Elt F) f = V) :
    (M.view.loc (c : Thread nD τ) ↦[M.view.set]{q} f : sProp 𝕄) = mv m c M q V := by
  unfold mv
  refine pointsTo_congr (eq_on_of_read ?_)
  rw [h]; exact (View.read_write_univ ..).symm

/-- A copy of `V` landing on a window leaves it holding `V`. -/
theorem mv_landed {s : Shape} {e : EltTy} (c : Dev nD) (M : Memref sig .tc .vmem s e) (q : PosShare TreeShare)
    (f : Buf (Elt F) (M.view.loc (c : Thread nD τ))) (V : s.Idx → Elt F e) :
    (M.view.loc (c : Thread nD τ) ↦[M.view.set]{q} (M.view.write (Elt F) f V Finset.univ) : sProp 𝕄) = mv m c M q V :=
  mv_of_read m c M q _ V (View.read_write_univ ..)

theorem mv_any {s : Shape} {e : EltTy} (c : Dev nD) (M : Memref sig .tc .vmem s e) (V : s.Idx → Elt F e) :
    mv m c M fullShare V ⊢ (any (F := F) c M : sProp 𝕄) := by
  unfold mv any
  iintro H
  iexists _
  iexact H

/-- A share splits into its two halves. -/
theorem mv_halve {s : Shape} {e : EltTy} (c : Dev nD) (M : Memref sig .tc .vmem s e) (q : PosShare TreeShare) (V : s.Idx → Elt F e) :
    (mv m c M q V : sProp 𝕄) ⊣⊢ iprop(mv m c M q.left V ∗ mv m c M q.right V) :=
  pointsTo_share (PosShare.mem_left_op_right _)

end Cert.RingGemm

end
-- ==== Proof.Access.lean ====
/-
# Loads and stores through windows

What a load or a store does to the fact that a window holds some values. A slot of a three-axis buffer is
read and written by the kernel with its leading axis of size one kept (`up`), and is the source or
the target of copies with that axis dropped (`down`).
-/
module

public import proofs.«01_k».proof.Proof.Holds

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

abbrev 𝒱₀ : Variants := Variants.none

/-- The specification of a program run by device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Values with the slot's axis put back, and with it dropped. -/
def up {α : Type} {s t : Shape} (h : s.Squeezes t) (V : t.Idx → α) : s.Idx → α := fun j => V ((Shape.reshapeEquiv h.numel_eq).symm j)
def down {α : Type} {s t : Shape} (h : s.Squeezes t) (v : s.Idx → α) : t.Idx → α := fun j => v (Shape.reshapeEquiv h.numel_eq j)

@[simp] theorem up_down {α : Type} {s t : Shape} (h : s.Squeezes t) (v : s.Idx → α) : up h (down h v) = v := by
  funext j; simp [up, down]
@[simp] theorem down_up {α : Type} {s t : Shape} (h : s.Squeezes t) (V : t.Idx → α) : down h (up h V) = V := by
  funext j; simp [up, down]

variable (m : (ℓ : Loc nD τ sig) → Buf (Elt F) ℓ)

section
variable {s t : Shape} {e : EltTy} {α : Type} (c : Dev nD) (M : Memref sig .tc .vmem s e)

/-- Loading a slot that a squeezed window names. -/
theorem load_slot (R : Rect s) (hR : ∀ a, R.stride a = 1) (hq : R.shape.Squeezes t) (q : PosShare TreeShare) (V : t.Idx → Elt F e)
    {hl : M.view.LoadsAt R.toLoadRect} {k : (R.shape.Idx → Elt F e) → Prog (TpuEff nD τ sig (Elt F) Λ₀ .tc) α} {Q : α → sProp 𝕄} :
    mv m c ((M.slice R hR).squeeze t hq) q V
      ⊢ iprop((mv m c ((M.slice R hR).squeeze t hq) q V -∗ WP c (k (up hq V)) Q) -∗ WP c (.op (.load M R.toLoadRect hl) k) Q) := by
  have hS : (M.access R).set ⊆ ((M.slice R hR).squeeze t hq).view.set := by
    rw [show ((M.slice R hR).squeeze t hq).view.set = (M.access R).set from View.set_reshape _ _]
  have key := wp_load_rect (Ix := Bool) (Name := ℕ) (Lvl := ℕ) (U := UU) (defs := defs₀ (F := F)) (Γ := PendingWaitsCtx.empty) 𝒱₀ (c : Thread nD τ) none Set.univ (Q := Q) (m := M) (r := R) (hl := hl) (k := k) (q := q)
    (f := ((M.slice R hR).squeeze t hq).view.write (Elt F) (m (((M.slice R hR).squeeze t hq).view.loc (c : Thread nD τ))) V Finset.univ) hS
  have hv : (M.access R).read (Elt F) (((M.slice R hR).squeeze t hq).view.write (Elt F) (m (((M.slice R hR).squeeze t hq).view.loc (c : Thread nD τ))) V Finset.univ) = up hq V := by
    have h := View.read_write_univ (v := ((M.slice R hR).squeeze t hq).view) (m (((M.slice R hR).squeeze t hq).view.loc (c : Thread nD τ))) V
    funext j
    have h2 := congrFun h ((Shape.reshapeEquiv hq.numel_eq).symm j)
    rw [View.read_apply] at h2
    rw [View.read_apply]
    unfold up
    rw [← h2]
    have he : ((M.slice R hR).squeeze t hq).view.emb ((Shape.reshapeEquiv hq.numel_eq).symm j) = (M.access R).emb j := by
      show (M.access R).emb (Shape.reshapeEquiv hq.numel_eq ((Shape.reshapeEquiv hq.numel_eq).symm j)) = _
      rw [Equiv.apply_symm_apply]
    rw [he]
  rw [hv] at key
  exact key

/-- Storing to a slot that a squeezed window names. -/
theorem store_slot (R : Rect s) (hR : ∀ a, R.stride a = 1) (hq : R.shape.Squeezes t) (V : t.Idx → Elt F e) (w : R.shape.Idx → Elt F e)
    {hx : (M.access R).Stores Finset.univ} {hm : (Finset.univ : Finset R.shape.Idx) = Finset.univ ∨ ∀ a, R.stride a = 1} {k : PUnit → Prog (TpuEff nD τ sig (Elt F) Λ₀ .tc) α} {Q : α → sProp 𝕄} :
    mv m c ((M.slice R hR).squeeze t hq) fullShare V
      ⊢ iprop((mv m c ((M.slice R hR).squeeze t hq) fullShare (down hq w) -∗ WP c (k ⟨⟩) Q) -∗ WP c (.op (.store M R w Finset.univ hx hm) k) Q) := by
  have hS : (M.access R).setOn Finset.univ ⊆ ((M.slice R hR).squeeze t hq).view.set := by
    rw [show ((M.slice R hR).squeeze t hq).view.set = (M.access R).set from View.set_reshape _ _, View.setOn_univ]
  have key := wp_store (Ix := Bool) (Name := ℕ) (Lvl := ℕ) (U := UU) (defs := defs₀ (F := F)) (Γ := PendingWaitsCtx.empty) 𝒱₀ (c : Thread nD τ) none Set.univ (Q := Q) (m := M) (r := R) (w := w) (Mk := Finset.univ) (hx := hx) (hm := hm) (k := k)
    (f := ((M.slice R hR).squeeze t hq).view.write (Elt F) (m (((M.slice R hR).squeeze t hq).view.loc (c : Thread nD τ))) V Finset.univ) hS
  refine key.trans ?_
  refine BI.Laws.wand_mono_left (BI.Laws.wand_mono_left (Entails.of_eq ?_))
  refine mv_of_read m c ((M.slice R hR).squeeze t hq) fullShare _ (down hq w) ?_
  funext j
  exact congrFun (View.read_write_univ (v := M.access R) _ w) (Shape.reshapeEquiv hq.numel_eq j)

/-- Loading a window. -/
theorem load_win (R : Rect s) (hR : ∀ a, R.stride a = 1) (q : PosShare TreeShare) (V : R.shape.Idx → Elt F e)
    {hl : M.view.LoadsAt R.toLoadRect} {k : (R.shape.Idx → Elt F e) → Prog (TpuEff nD τ sig (Elt F) Λ₀ .tc) α} {Q : α → sProp 𝕄} :
    mv m c (M.slice R hR) q V
      ⊢ iprop((mv m c (M.slice R hR) q V -∗ WP c (k V) Q) -∗ WP c (.op (.load M R.toLoadRect hl) k) Q) := by
  have key := wp_load_rect (Ix := Bool) (Name := ℕ) (Lvl := ℕ) (U := UU) (defs := defs₀ (F := F)) (Γ := PendingWaitsCtx.empty) 𝒱₀ (c : Thread nD τ) none Set.univ (Q := Q) (m := M) (r := R) (hl := hl) (k := k) (q := q)
    (S := (M.slice R hR).view.set)
    (f := (M.slice R hR).view.write (Elt F) (m ((M.slice R hR).view.loc (c : Thread nD τ))) V Finset.univ) (Finset.Subset.refl _)
  rw [show (M.access R).read (Elt F) ((M.slice R hR).view.write (Elt F) (m ((M.slice R hR).view.loc (c : Thread nD τ))) V Finset.univ) = V
    from View.read_write_univ (v := (M.slice R hR).view) _ V] at key
  exact key

/-- Storing to a window. -/
theorem store_win (R : Rect s) (hR : ∀ a, R.stride a = 1) (V w : R.shape.Idx → Elt F e)
    {hx : (M.access R).Stores Finset.univ} {hm : (Finset.univ : Finset R.shape.Idx) = Finset.univ ∨ ∀ a, R.stride a = 1} {k : PUnit → Prog (TpuEff nD τ sig (Elt F) Λ₀ .tc) α} {Q : α → sProp 𝕄} :
    mv m c (M.slice R hR) fullShare V
      ⊢ iprop((mv m c (M.slice R hR) fullShare w -∗ WP c (k ⟨⟩) Q) -∗ WP c (.op (.store M R w Finset.univ hx hm) k) Q) := by
  have key := wp_store (Ix := Bool) (Name := ℕ) (Lvl := ℕ) (U := UU) (defs := defs₀ (F := F)) (Γ := PendingWaitsCtx.empty) 𝒱₀ (c : Thread nD τ) none Set.univ (Q := Q) (m := M) (r := R) (w := w) (Mk := Finset.univ) (hx := hx) (hm := hm) (k := k)
    (S := (M.slice R hR).view.set)
    (f := (M.slice R hR).view.write (Elt F) (m ((M.slice R hR).view.loc (c : Thread nD τ))) V Finset.univ) (Finset.Subset.refl _)
  refine key.trans ?_
  exact BI.Laws.wand_mono_left (BI.Laws.wand_mono_left (Entails.of_eq (mv_landed m c (M.slice R hR) fullShare _ w)))

/-- A wholly owned window holds some values. -/
theorem any_open : (any (F := F) c M : sProp 𝕄) ⊢ iprop(∃ V : s.Idx → Elt F e, mv m c M fullShare V) := by
  unfold any
  iintro ⟨%f, H⟩
  iexists M.view.read (Elt F) f
  rw [← mv_of_read m c M fullShare f _ rfl]
  iexact H

end

section
variable {s : Shape} {e : EltTy} {α : Type} (c : Dev nD) (M : Memref sig .tc .vmem s e)

/-- The rectangle that is all of a window, element by element. -/
theorem emb_full {off : Fin s.rank → ℕ} (h : off = fun _ => 0) (inb : ∀ a, off a + s.size a ≤ s.size a) (j : s.Idx) :
    (Rect.unit (s := s) off s.size inb).emb j = j := by
  subst h
  funext a
  apply Fin.ext
  rw [Rect.emb_apply]
  simp [Rect.unit]

/-- Loading all of a window. -/
theorem load_full {off : Fin s.rank → ℕ} (h : off = fun _ => 0) (inb : ∀ a, off a + s.size a ≤ s.size a) (q : PosShare TreeShare) (V : s.Idx → Elt F e)
    {hl : M.view.LoadsAt (Rect.unit (s := s) off s.size inb).toLoadRect} {k : (s.Idx → Elt F e) → Prog (TpuEff nD τ sig (Elt F) Λ₀ .tc) α} {Q : α → sProp 𝕄} :
    mv m c M q V
      ⊢ iprop((mv m c M q V -∗ WP c (k V) Q) -∗ WP c (.op (.load M (Rect.unit (s := s) off s.size inb).toLoadRect hl) k) Q) := by
  have he : ∀ j : s.Idx, (M.access (Rect.unit (s := s) off s.size inb)).emb j = M.view.emb j := fun j => by
    show M.view.emb ((Rect.unit (s := s) off s.size inb).emb j) = _
    rw [emb_full h inb j]
  have hS : (M.access (Rect.unit (s := s) off s.size inb)).set ⊆ M.view.set := View.set_slice_subset _ _
  have key := wp_load_rect (Ix := Bool) (Name := ℕ) (Lvl := ℕ) (U := UU) (defs := defs₀ (F := F)) (Γ := PendingWaitsCtx.empty) 𝒱₀ (c : Thread nD τ) none Set.univ (Q := Q) (m := M) (r := Rect.unit (s := s) off s.size inb) (hl := hl) (k := k) (q := q)
    (f := M.view.write (Elt F) (m (M.view.loc (c : Thread nD τ))) V Finset.univ) hS
  have hv : (M.access (Rect.unit (s := s) off s.size inb)).read (Elt F) (M.view.write (Elt F) (m (M.view.loc (c : Thread nD τ))) V Finset.univ) = V := by
    funext j
    have h2 := congrFun (View.read_write_univ (v := M.view) (m (M.view.loc (c : Thread nD τ))) V) j
    rw [View.read_apply] at h2 ⊢
    rw [← h2, he j]
  rw [hv] at key
  exact key

/-- Storing to all of a window. -/
theorem store_full {off : Fin s.rank → ℕ} (h : off = fun _ => 0) (inb : ∀ a, off a + s.size a ≤ s.size a) (V w : s.Idx → Elt F e)
    {hx : (M.access (Rect.unit (s := s) off s.size inb)).Stores Finset.univ}
    {hm : (Finset.univ : Finset s.Idx) = Finset.univ ∨ ∀ a, (Rect.unit (s := s) off s.size inb).stride a = 1}
    {k : PUnit → Prog (TpuEff nD τ sig (Elt F) Λ₀ .tc) α} {Q : α → sProp 𝕄} :
    mv m c M fullShare V
      ⊢ iprop((mv m c M fullShare w -∗ WP c (k ⟨⟩) Q) -∗ WP c (.op (.store M (Rect.unit (s := s) off s.size inb) w Finset.univ hx hm) k) Q) := by
  have he : ∀ j : s.Idx, (M.access (Rect.unit (s := s) off s.size inb)).emb j = M.view.emb j := fun j => by
    show M.view.emb ((Rect.unit (s := s) off s.size inb).emb j) = _
    rw [emb_full h inb j]
  have hS : (M.access (Rect.unit (s := s) off s.size inb)).setOn Finset.univ ⊆ M.view.set := by
    rw [View.setOn_univ]; exact View.set_slice_subset _ _
  have key := wp_store (Ix := Bool) (Name := ℕ) (Lvl := ℕ) (U := UU) (defs := defs₀ (F := F)) (Γ := PendingWaitsCtx.empty) 𝒱₀ (c : Thread nD τ) none Set.univ (Q := Q) (m := M) (r := Rect.unit (s := s) off s.size inb) (w := w) (Mk := Finset.univ) (hx := hx) (hm := hm) (k := k)
    (f := M.view.write (Elt F) (m (M.view.loc (c : Thread nD τ))) V Finset.univ) hS
  refine key.trans ?_
  refine BI.Laws.wand_mono_left (BI.Laws.wand_mono_left (Entails.of_eq ?_))
  refine mv_of_read m c M fullShare _ w ?_
  funext j
  have h2 := congrFun (View.read_write_univ (v := M.access (Rect.unit (s := s) off s.size inb)) (M.view.write (Elt F) (m (M.view.loc (c : Thread nD τ))) V Finset.univ) w) j
  rw [View.read_apply] at h2 ⊢
  rw [← h2]
  rw [he j]

end

end Cert.RingGemm

end
-- ==== Proof.Contents.lean ====
/-
# What travels around the ring

The operands each device starts with, the half-width right-hand blocks that go around, the products each
device computes and sends home, and the largest magnitudes.
-/
module

public import proofs.«01_k».proof.Proof.Access

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ)

/-- A device's rows of the left operand, and its columns of the right operand. -/
def xv (c : Dev nD) : S1024x4096.Idx → Elt F .f32 := (win0_0.blk (0 : Fin 1)).view.read (Elt F) (m ((c : Thread nD τ).loc main_arg0))
def wv (c : Dev nD) : S4096x512.Idx → Elt F .f32 := (win0_1.blk (0 : Fin 1)).view.read (Elt F) (m ((c : Thread nD τ).loc main_arg1))

/-- The left and right halves of a device's columns. -/
def wL (c : Dev nD) : S4096x256.Idx → Elt F .f32 := wLo.view.read (Elt F) (wv m c)
def wH (c : Dev nD) : S4096x256.Idx → Elt F .f32 := wHi.view.read (Elt F) (wv m c)

/-- A half block as a slot of a ring buffer shows it to the kernel. -/
abbrev slotW (V : S4096x256.Idx → Elt F .f32) : S1x4096x256.Idx → Elt F .f32 := up squeezes_S1x4096x256_S4096x256 V

/-- A device's product with its own columns. -/
def prOwn (c : Dev nD) : S1024x512.Idx → Elt F .f32 := k0_pay2 (xv m c) (wv m c)

/-- A device's products with the other devices' half blocks, as computed in the buffer of products:
    for the left neighbour (both halves), for the device opposite, for the right neighbour. -/
def prLL (c : Dev nD) : S1x1024x256.Idx → Elt F .f32 := k0_pay5 (xv m c) (slotW (wL m (lf c)))
def prLH (c : Dev nD) : S1x1024x256.Idx → Elt F .f32 := k0_pay16 (xv m c) (slotW (wH m (lf c)))
def prOL (c : Dev nD) : S1x1024x256.Idx → Elt F .f32 := k0_pay10 (k0_pay9 (xv m c)) (slotW (wL m (op c)))
def prOH (c : Dev nD) : S1x1024x256.Idx → Elt F .f32 := k0_pay12 (xv m c) (slotW (wH m (op c)))
def prRL (c : Dev nD) : S1x1024x256.Idx → Elt F .f32 := k0_pay14 (xv m c) (slotW (wL m (rt c)))
def prRH (c : Dev nD) : S1x1024x256.Idx → Elt F .f32 := k0_pay7 (xv m c) (slotW (wH m (rt c)))

/-- A product as a copy carries it. -/
abbrev sent (V : S1x1024x256.Idx → Elt F .f32) : S1024x256.Idx → Elt F .f32 := down squeezes_S1x1024x256_S1024x256 V

/-- The largest magnitude among the products a device computes, and the block it sends to the others. -/
def amax (c : Dev nD) : F .f32 :=
  k0_pay18 (k0_pay4 (k0_pay3 (prOwn m c))) (k0_pay6 (prLL m c)) (k0_pay8 (prRH m c)) (k0_pay11 (prOL m c)) (k0_pay13 (prOH m c))
    (k0_pay15 (prRL m c)) (k0_pay17 (prLH m c))
def amaxB (c : Dev nD) : S8x128.Idx → Elt F .f32 :=
  k0_pay19 (k0_pay4 (k0_pay3 (prOwn m c))) (k0_pay6 (prLL m c)) (k0_pay8 (prRH m c)) (k0_pay11 (prOL m c)) (k0_pay13 (prOH m c))
    (k0_pay15 (prRL m c)) (k0_pay17 (prLH m c))

/-- The one element of a block of magnitudes that the kernel reads. -/
def corner (V : S8x128.Idx → Elt F .f32) : S1x1x1.Idx → Elt F .f32 := fun _ => V (fun _ => ⟨0, by decide +revert⟩)

/-- The largest magnitude over all the devices, as device `c` gathers it. -/
def gmax (c : Dev nD) : F .f32 :=
  k0_pay21 (k0_pay20 (amax m c) (corner (amaxB m (rt c))) (corner (amaxB m (op c)))) (corner (amaxB m (lf c)))

end Cert.RingGemm

end
-- ==== Proof.Schedule.lean ====
/-
# The protocol

Every semaphore of every device is a cell of a round protocol. Here are the cells, who pays what
into each in which round, and what a payment hands over to the device that waits.
-/
module

public import proofs.«01_k».proof.Proof.Contents

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-! ## Cells -/

/-- The semaphores of the protocol: 0 and 1 the two credits, 2 the barrier, the others the copies' own,
    by their numbers. The staging copies' semaphores 0, 1, 2 are not of the protocol. -/
def kloc (k : Fin 29) : SemLoc sig := if h : k.val < 3 then .reg ⟨k.val, h⟩ else .dma ⟨k.val, k.isLt⟩

/-- The number of a semaphore, 99 for the staging copies'. -/
def idx : SemLoc sig → ℕ
  | .reg s => s.val
  | .dma s => if s.val < 3 then 99 else s.val

theorem idx_kloc (k : Fin 29) : idx (kloc k) = k.val := by revert k; decide +kernel
theorem kloc_inj : Function.Injective kloc := fun a b h => Fin.ext (by rw [← idx_kloc a, ← idx_kloc b, h])

/-- The cell of semaphore `k` of device `c`. -/
abbrev cell (c : Dev nD) (k : Fin 29) : GSem nD τ sig := ((c : Thread nD τ), kloc k)

/-! ## Payments -/

/-- The payments expected by semaphore `k` in round `r`. -/
def dut (k r : ℕ) : Finset Bool :=
  if r = 0 then (if k = 2 then {true, false} else if k < 29 then {false} else ∅)
  else if r = 1 ∧ (k = 3 ∨ k = 5 ∨ k = 7 ∨ k = 9) then {false} else ∅

/-- The credit of a copy of a half block, of a product, of a block of magnitudes. -/
abbrev NW : ℕ := (a0 : Memref sig .tc .vmem S4096x256 .f32).view.dmaCredit
abbrev NR : ℕ := (p0 : Memref sig .tc .vmem S1024x256 .f32).view.dmaCredit
abbrev NA : ℕ := (tM : Memref sig .tc .vmem S8x128 .f32).view.dmaCredit

theorem NW_pos : 0 < NW := View.dmaCredit_pos _ (by decide)
theorem NR_pos : 0 < NR := View.dmaCredit_pos _ (by decide)
theorem NA_pos : 0 < NA := View.dmaCredit_pos _ (by decide)

/-- The size of a payment into semaphore `k`. -/
def amt (k : ℕ) : ℕ := if k < 3 then 1 else if k < 11 then NW else if k < 23 then NR else NA

theorem amt_pos (k : ℕ) : 0 < amt k := by
  unfold amt
  split
  · exact Nat.one_pos
  · split
    · exact NW_pos
    · split
      · exact NR_pos
      · exact NA_pos

variable (m : (ℓ : Loc nD τ sig) → Buf (Elt F) ℓ)

/-- What a payment into semaphore `k` of device `c` hands to `c`. -/
def pay (c : Dev nD) (k r : ℕ) (d : Bool) : sProp 𝕄 :=
  match k with
  | 0 => iprop(any (rt c) a0 ∗ reached ER (cell (rt c) 5) 1)
  | 1 => iprop(any (lf c) b0 ∗ reached ER (cell (lf c) 9) 1)
  | 2 => match d with
    | true => iprop(any (rt c) a0 ∗ any (rt c) a1 ∗ any (rt c) (oLo c) ∗ any (rt c) (oHi c) ∗ any (rt c) g2)
    | false => iprop(any (lf c) b0 ∗ any (lf c) b1 ∗ any (lf c) (oLo c) ∗ any (lf c) (oHi c) ∗ any (lf c) g0
        ∗ any (lf c) (oLo (rt c)) ∗ any (lf c) (oHi (rt c)) ∗ any (lf c) g1)
  | 3 => match r with
    | 0 => mv m c wLo fullShare.left (wL m c)
    | _ => mv m c a1 fullShare.left (wL m (op c))
  | 4 => mv m c a0 fullShare.left (wL m (lf c))
  | 5 => match r with
    | 0 => iprop(mv m c a0 fullShare (wL m (lf c)) ∗ any (op c) (oLo c) ∗ any (op c) (oHi c) ∗ any (op c) g1)
    | _ => mv m c a0 fullShare (wL m (rt c))
  | 6 => mv m c a1 fullShare (wL m (op c))
  | 7 => match r with
    | 0 => mv m c wHi fullShare.left (wH m c)
    | _ => mv m c b1 fullShare.left (wH m (op c))
  | 8 => mv m c b0 fullShare.left (wH m (rt c))
  | 9 => match r with
    | 0 => mv m c b0 fullShare (wH m (rt c))
    | _ => mv m c b0 fullShare (wH m (lf c))
  | 10 => mv m c b1 fullShare (wH m (op c))
  | 11 => any c p0
  | 12 => any c p1
  | 13 => any c p2
  | 14 => any c p3
  | 15 => any c p0
  | 16 => any c p1
  | 17 => mv m c (oLo (rt c)) fullShare (sent (prLL m (rt c)))
  | 18 => mv m c (oHi (rt c)) fullShare (sent (prLH m (rt c)))
  | 19 => mv m c (oLo (op c)) fullShare (sent (prOL m (op c)))
  | 20 => mv m c (oHi (op c)) fullShare (sent (prOH m (op c)))
  | 21 => mv m c (oLo (lf c)) fullShare (sent (prRL m (lf c)))
  | 22 => mv m c (oHi (lf c)) fullShare (sent (prRH m (lf c)))
  | 23 => mv m c tM fullShare.right.right (amaxB m c)
  | 24 => mv m c tM fullShare.right.left (amaxB m c)
  | 25 => mv m c tM fullShare.left (amaxB m c)
  | 26 => mv m c g0 fullShare (amaxB m (rt c))
  | 27 => mv m c g1 fullShare (amaxB m (op c))
  | 28 => mv m c g2 fullShare (amaxB m (lf c))
  | _ => iprop(emp)

instance pay_storable (c : Dev nD) (k r : ℕ) (d : Bool) : BI.Storable (upEmb : UEmb _ 𝕄) (pay m c k r d) := by
  unfold pay
  (repeat' split) <;> infer_instance

/-- The protocol. -/
def Rd : Schedule (GSem nD τ sig) Bool 𝕄 where
  duties g r := if g.1.2 = .tc then dut (idx g.2) r else ∅
  amount g _ _ := amt (idx g.2)
  payload g r d := pay m g.1.1 (idx g.2) r d
  amount_pos g _ _ _ := amt_pos _

instance Rd_storable (g : GSem nD τ sig) (r : ℕ) (d : Bool) : BI.Storable (upEmb : UEmb _ 𝕄) ((Rd m).payload g r d) := pay_storable m _ _ _ _

theorem duties_cell (c : Dev nD) (k : Fin 29) (r : ℕ) : (Rd (F := F) m).duties (cell c k) r = dut k.val r := by
  dsimp only [Rd]
  rw [if_pos rfl, idx_kloc]
theorem amount_cell (c : Dev nD) (k : Fin 29) (r : ℕ) (d : Bool) : (Rd (F := F) m).amount (cell c k) r d = amt k.val := by
  dsimp only [Rd]
  rw [idx_kloc]
theorem payload_cell (c : Dev nD) (k : Fin 29) (r : ℕ) (d : Bool) : (Rd m).payload (cell c k) r d = pay m c k.val r d := by
  dsimp only [Rd]
  rw [idx_kloc]
theorem expect_cell (c : Dev nD) (k : Fin 29) (r : ℕ) : (Rd (F := F) m).expect (cell c k) r = (dut k.val r).card * amt k.val := by
  unfold Schedule.expect Schedule.amountOf
  rw [duties_cell, Finset.sum_congr rfl (fun d _ => amount_cell m c k r d), Finset.sum_const, smul_eq_mul]

/-- Nothing is paid after the second round; nothing after the first except into four semaphores. -/
theorem duties_end (c : Dev nD) (k : Fin 29) : ∀ r, 2 ≤ r → (Rd (F := F) m).duties (cell c k) r = ∅ := fun r hr => by
  rw [duties_cell]; unfold dut
  rw [if_neg (by omega), if_neg (by omega)]
theorem duties_end1 (c : Dev nD) (k : Fin 29) (h : ¬ (k.val = 3 ∨ k.val = 5 ∨ k.val = 7 ∨ k.val = 9)) :
    ∀ r, 1 ≤ r → (Rd (F := F) m).duties (cell c k) r = ∅ := fun r hr => by
  rw [duties_cell]; unfold dut
  rw [if_neg (by omega), if_neg (fun h' => h h'.2)]

end Cert.RingGemm

end
-- ==== Proof.Owe.lean ====
/-
# What a device owes, and the order of waiting

A device pays other devices nineteen times, always in the same order. Every cell has a level, and a device
waits on a cell only while everything it still owes lies at a higher level. So the devices cannot all be
waiting for each other.
-/
module

public import proofs.«01_k».proof.Proof.Schedule

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

/-- A payment to another device: how many places to the right it stands, the semaphore, the second round or not. -/
structure Due where
  dir : Fin 4
  k : Fin 29
  ix : Bool
deriving DecidableEq

/-- The payments still to be made, as a tally. -/
def owed (c : Dev nD) : List Due → CellTallies nD τ sig Bool
  | [] => 0
  | p :: l => owed c l + tallyAt (cell (fwd p.dir c) p.k) p.ix (amt p.k.val)

/-- Every payment a device makes, in order. -/
def dues : List Due :=
  [⟨3, 2, false⟩, ⟨1, 2, false⟩, ⟨1, 5, false⟩, ⟨3, 9, false⟩, ⟨1, 6, false⟩, ⟨3, 10, false⟩, ⟨3, 17, false⟩, ⟨1, 22, false⟩,
    ⟨3, 0, false⟩, ⟨1, 1, false⟩, ⟨1, 5, true⟩, ⟨3, 9, true⟩, ⟨2, 19, false⟩, ⟨2, 20, false⟩, ⟨1, 21, false⟩, ⟨3, 18, false⟩,
    ⟨1, 28, false⟩, ⟨2, 27, false⟩, ⟨3, 26, false⟩]

/-- The level of a semaphore's wait, by its number and round. -/
def lvk (k : ℕ) (ix : Bool) : ℕ :=
  if k = 2 then 1
  else if k = 5 ∨ k = 9 then (if ix then 5 else 2)
  else if k = 6 ∨ k = 10 then 3
  else if k < 2 then 4
  else if (17 ≤ k ∧ k ≤ 22) ∨ (26 ≤ k ∧ k ≤ 28) then 6
  else 0

def L (g : GSem nD τ sig) : Finset Bool := if g.1.2 = .tc then Finset.univ else ∅
def lv (g : GSem nD τ sig) (ix : Bool) : ℕ := lvk (idx g.2) ix

theorem L_of_ne (g : GSem nD τ sig) (h : g.1.2 ≠ .tc) : L g = ∅ := if_neg h
theorem L_tc (c : Dev nD) (sm : SemLoc sig) : L ((c : Thread nD τ), sm) = Finset.univ := if_pos rfl

theorem owed_pos {c : Dev nD} {l : List Due} {g : GSem nD τ sig} {u : Bool} (h : 0 < owed c l g u) :
    ∃ p ∈ l, g = cell (fwd p.dir c) p.k ∧ u = p.ix := by
  induction l with
  | nil => exact absurd h (Nat.lt_irrefl 0)
  | cons p l ih =>
    unfold owed at h
    rw [Pi.add_apply, Finsupp.add_apply, tallyAt_apply] at h
    by_cases hp : g = cell (fwd p.dir c) p.k ∧ u = p.ix
    · exact ⟨p, List.mem_cons_self, hp⟩
    · rw [if_neg hp, add_zero] at h
      obtain ⟨p', h1, h2⟩ := ih h
      exact ⟨p', List.mem_cons_of_mem _ h1, h2⟩

/-- Waiting is safe below every payment still owed. -/
theorem mayWait (c : Dev nD) (sm : SemLoc sig) (ix : Bool) (l : List Due) (hl : ∀ p ∈ l, lvk (idx sm) ix < lvk p.k.val p.ix) :
    (levAts L lv : sProp 𝕄) ⊢ MayWait (c : Thread nD τ) sm ix (owed c l) :=
  MayOwe.of_cut (L := L) (lev := lv) (lvk (idx sm) ix)
    (fun p hp => by rw [Finset.mem_singleton.mp hp, L_tc]; exact Finset.mem_univ _)
    (fun g u hg => by obtain ⟨p, -, rfl, -⟩ := owed_pos hg; rw [L_tc]; exact Finset.mem_univ _)
    (fun p hp => by rw [Finset.mem_singleton.mp hp]; exact le_rfl)
    (fun g u hg => by
      obtain ⟨p, hp, rfl, rfl⟩ := owed_pos hg
      unfold lv
      rw [idx_kloc]
      exact hl p hp)

end Cert.RingGemm

end
-- ==== Proof.Steps.lean ====
/-
# Signals, waits and copies under the protocol

One rule for each kind of synchronisation the kernel performs, in terms of the windows' contents, the
payments a device still owes and its position at its own cells.
-/
module

public import proofs.«01_k».proof.Proof.Owe

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ)

/-! ## The resources -/

/-- What device `c` still owes, whatever it has waited for. -/
def Ow (c : Dev nD) (l : List Due) : sProp 𝕄 := iprop(∃ W : Waits sig Bool, owes (c : Thread nD τ) (owed c l) W)
/-- Device `c` stands at the start of round `r` of its cell `k`. -/
def At (c : Dev nD) (k : Fin 29) (r : ℕ) : sProp 𝕄 := atPos ER (cell c k) r ∅ 0
/-- Device `c` may wait for `n` units on its cell `k`. -/
def Cr (c : Dev nD) (k : Fin 29) (ix : Bool) (n : ℕ) : sProp 𝕄 := cred (tallyAt (cell c k) ix n)
/-- The right to make payment `d` of round `r` into cell `k` of device `c`. -/
def Tok (c : Dev nD) (k : Fin 29) (r : ℕ) (d : Bool) : sProp 𝕄 := dutyTok ER (cell c k) r d
/-- Round `r` of cell `k` of device `c` has been reached. -/
abbrev Rch (c : Dev nD) (k : Fin 29) (r : ℕ) : sProp 𝕄 := reached ER (cell c k) r

/-- What everyone knows: the cells' invariants, that round 0 is reached everywhere, and the levels. -/
def Ctx : sProp 𝕄 :=
  iprop((bigSep Finset.univ fun p : Dev nD × Fin 29 => cellInv ER (Rd m) (K p) (cell p.1 p.2))
    ∗ (bigSep Finset.univ fun p : Dev nD × Fin 29 => Rch p.1 p.2 0) ∗ levAts L lv)

instance : BI.Persistent (Ctx m K : sProp 𝕄) := by unfold Ctx; infer_instance

theorem ctx_inv (c : Dev nD) (k : Fin 29) : Ctx m K ⊢ cellInv ER (Rd m) (K (c, k)) (cell c k) := by
  have h : (bigSep Finset.univ fun p : Dev nD × Fin 29 => cellInv ER (Rd m) (K p) (cell p.1 p.2)) ⊢ cellInv ER (Rd m) (K (c, k)) (cell c k) :=
    bigSep_elim (Φ := fun p : Dev nD × Fin 29 => cellInv ER (Rd m) (K p) (cell p.1 p.2)) (Finset.mem_univ (c, k))
  unfold Ctx
  iintro ⟨H, -, -⟩
  iapply h
  iexact H

theorem ctx_rch (c : Dev nD) (k : Fin 29) : Ctx m K ⊢ Rch (F := F) c k 0 := by
  have h : (bigSep Finset.univ fun p : Dev nD × Fin 29 => Rch (F := F) p.1 p.2 0) ⊢ Rch (F := F) c k 0 :=
    bigSep_elim (Φ := fun p : Dev nD × Fin 29 => Rch (F := F) p.1 p.2 0) (Finset.mem_univ (c, k))
  unfold Ctx
  iintro ⟨-, H, -⟩
  iapply h
  iexact H

theorem ctx_lev : Ctx m K ⊢ (levAts L lv : sProp 𝕄) := by
  unfold Ctx
  iintro ⟨-, -, H⟩
  iexact H

/-! ## Waiting -/

variable (c : Dev nD)

/-- A wait for a whole round of one payment into one of the device's copy semaphores. -/
theorem wait_dma (k : Fin 29) (r : ℕ) (ix : Bool) (l : List Due) {sem : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {p : PUnit → Prog (TpuEff nD τ sig (Elt F) Λ₀ .tc) α}
    (hs : SemLoc.dma sem = kloc k) (hn : dst.view.dmaCredit = amt k.val) (hd : dut k.val r = {false})
    (hl : ∀ q ∈ l, lvk k.val ix < lvk q.k.val q.ix) (P : sProp 𝕄) (hP : pay m c k.val r false = P) :
    iprop(Ctx m K ∗ Cr c k ix (amt k.val) ∗ Ow c l ∗ At c k r)
      ⊢ iprop((Ow c l ∗ At c k (r + 1) ∗ Rch c k (r + 1) ∗ P -∗ WP c (p ⟨⟩) Q)
          -∗ WP c (.op (.waitDma2 sem src dst hsrc hdst) p) Q) := by
  subst hP
  have hk : 0 + dst.view.dmaCredit = (Rd (F := F) m).expect ((c : Thread nD τ), SemLoc.dma sem) r := by
    rw [hs, show ((c : Thread nD τ), kloc k) = cell c k from rfl, expect_cell, hd, hn, Finset.card_singleton, one_mul, zero_add]
  have hmw : (levAts L lv : sProp 𝕄) ⊢ MayWait (c : Thread nD τ) (kloc k) ix (owed c l) := mayWait c (kloc k) ix l (by rw [idx_kloc]; exact hl)
  iintro ⟨#HC, Hcr, HO, HA⟩ Hk
  unfold Ow
  icases HO with ⟨%W, HO⟩
  iapply (Rounds.wp_wait_rest_token 𝒱₀ ER (Rd m) (c : Thread nD τ) none (κ := K (c, k)) (wpE_waitDma2_eq 𝒱₀ (c : Thread nD τ) none Set.univ)
    (Set.mem_univ _) ix (O := owed c l) (W := W) (R := r) (m := 0) (T := ∅) hk) $$ [Hcr HO HA]
  · rw [hs, hn]
    unfold Cr At
    isplitr
    · iapply (ctx_inv m K c k); iexact HC
    isplitl [Hcr]; · iexact Hcr
    isplitl [HO]; · iexact HO
    isplitr
    · iapply hmw
      iapply (ctx_lev m K); iexact HC
    iexact HA
  rw [hs]
  rw [show ((c : Thread nD τ), kloc k) = cell c k from rfl, Finset.sdiff_empty, duties_cell, hd, bigSep_singleton, payload_cell]
  iintro ⟨HO, HA, HR, HP⟩
  iapply Hk
  isplitl [HO]; · iexists _; iexact HO
  unfold At
  isplitl [HA]; · iexact HA
  isplitl [HR]; · iexact HR
  iexact HP

/-- A wait for a whole round of one payment into one of the device's credit semaphores. -/
theorem wait_reg (k : Fin 29) (r : ℕ) (ix : Bool) (l : List Due) {sem : Sem sig}
    {α : Type} {Q : α → sProp 𝕄} {p : PUnit → Prog (TpuEff nD τ sig (Elt F) Λ₀ .tc) α} {n : ℕ}
    (hs : SemLoc.reg sem = kloc k) (hn : n = (dut k.val r).card * amt k.val)
    (hl : ∀ q ∈ l, lvk k.val ix < lvk q.k.val q.ix) :
    iprop(Ctx m K ∗ Cr c k ix n ∗ Ow c l ∗ At c k r)
      ⊢ iprop((Ow c l ∗ At c k (r + 1) ∗ Rch c k (r + 1) ∗ bigSep (dut k.val r) (fun d => pay m c k.val r d) -∗ WP c (p ⟨⟩) Q)
          -∗ WP c (.op (.semWait sem (n : ℤ)) p) Q) := by
  have hk : 0 + n = (Rd (F := F) m).expect ((c : Thread nD τ), SemLoc.reg sem) r := by
    rw [hs, show ((c : Thread nD τ), kloc k) = cell c k from rfl, expect_cell, hn, zero_add]
  have hmw : (levAts L lv : sProp 𝕄) ⊢ MayWait (c : Thread nD τ) (kloc k) ix (owed c l) := mayWait c (kloc k) ix l (by rw [idx_kloc]; exact hl)
  iintro ⟨#HC, Hcr, HO, HA⟩ Hk
  unfold Ow
  icases HO with ⟨%W, HO⟩
  iapply (Rounds.wp_wait_rest_token 𝒱₀ ER (Rd m) (c : Thread nD τ) none (κ := K (c, k)) (wpE_semWait_eq 𝒱₀ (c : Thread nD τ) none Set.univ)
    (Set.mem_univ _) ix (O := owed c l) (W := W) (R := r) (m := 0) (T := ∅) hk) $$ [Hcr HO HA]
  · rw [hs]
    unfold Cr At
    isplitr
    · iapply (ctx_inv m K c k); iexact HC
    isplitl [Hcr]; · iexact Hcr
    isplitl [HO]; · iexact HO
    isplitr
    · iapply hmw
      iapply (ctx_lev m K); iexact HC
    iexact HA
  rw [hs]
  rw [show ((c : Thread nD τ), kloc k) = cell c k from rfl, Finset.sdiff_empty, duties_cell, bigSep_congr (fun d _ => payload_cell m c k r d)]
  iintro ⟨HO, HA, HR, HP⟩
  iapply Hk
  isplitl [HO]; · iexists _; iexact HO
  unfold At
  isplitl [HA]; · iexact HA
  isplitl [HR]; · iexact HR
  iexact HP

/-! ## Paying -/

/-- A signal to the device `dir` places to the right. -/
theorem signal_step (n : Dev nD) (dir : Fin 4) (hn : n = fwd dir c) (k : Fin 29) (d ix : Bool) (l : List Due) {sem : Sem sig}
    {α : Type} {Q : α → sProp 𝕄} {p : PUnit → Prog (TpuEff nD τ sig (Elt F) Λ₀ .tc) α} (hs : SemLoc.reg sem = kloc k) (ha : amt k.val = 1) (hd : d ∈ dut k.val 0)
    (X : sProp 𝕄) (hX : X ⊢ pay m (fwd dir c) k.val 0 d) :
    iprop(Ctx m K ∗ Ow c (⟨dir, k, ix⟩ :: l) ∗ Tok (fwd dir c) k 0 d ∗ X)
      ⊢ iprop((Ow c l -∗ WP c (p ⟨⟩) Q) -∗ WP c (.op (.semSignal ((n, Proc.tc) : Thread nD τ) sem (1 : ℕ)) p) Q) := by
  subst hn
  have h1 : d ∈ (Rd (F := F) m).duties ((fwd dir c : Thread nD τ), SemLoc.reg sem) 0 := by
    rw [hs]; show d ∈ (Rd m).duties (cell (fwd dir c) k) 0; rw [duties_cell]; exact hd
  have h2 : (Rd (F := F) m).amount ((fwd dir c : Thread nD τ), SemLoc.reg sem) 0 d = 1 := by
    rw [hs]; show (Rd m).amount (cell (fwd dir c) k) 0 d = 1; rw [amount_cell]; exact ha
  have h3 : owed c (⟨dir, k, ix⟩ :: l) = owed c l + tallyAt ((fwd dir c : Thread nD τ), SemLoc.reg sem) ix 1 := by
    rw [hs]; show owed c l + tallyAt (cell (fwd dir c) k) ix (amt k.val) = _; rw [ha]
  iintro ⟨#HC, HO, HT, HP⟩ Hk
  unfold Ow
  icases HO with ⟨%W, HO⟩
  iapply (Rounds.wp_signal 𝒱₀ ER (Rd m) (c : Thread nD τ) none (dst := (fwd dir c : Thread nD τ)) (κ := K (fwd dir c, k)) (r := 0) (d := d) (k' := 1)
    (O₀ := owed c (⟨dir, k, ix⟩ :: l))
    h1 h2 ix (owed c l) h3 (W := W)) $$ [HO HT HP]
  · rw [hs, show ((fwd dir c : Thread nD τ), kloc k) = cell (fwd dir c) k from rfl, payload_cell]
    unfold Tok
    isplitr
    · iapply (ctx_inv m K (fwd dir c) k); iexact HC
    isplitl [HO]; · iexact HO
    isplitl [HT]; · iexact HT
    isplitl [HP]; · iapply hX; iexact HP
    iapply (ctx_rch m K (fwd dir c) k); iexact HC
  iintro HO
  iapply Hk
  iexists W; iexact HO

/-- A copy to the device `dir` places to the right, in any rounds, with something handed over beside it. -/
theorem send_gen (n : Dev nD) (dir : Fin 4) (hn : n = fwd dir c) (ks kr : Fin 29) (rs rr : ℕ) (ix : Bool) (l : List Due)
    {s : Shape} {e : EltTy} {src dst : Memref sig .tc .vmem s e} {sS sem : DmaSem sig} {hsc : dst.view.ref.isScScratch = false}
    {hsrc : src.view.WordExact} {hdst : dst.view.WordExact}
    {hsem : DmaTarget.Typed (nD := nD) (τ := τ) .vmem (.dma sem) (.remote (Dev.tc n : Thread nD τ) dst (.dma sS) hsc)}
    {α : Type} {Q : α → sProp 𝕄} {p : PUnit → Prog (TpuEff nD τ sig (Elt F) Λ₀ .tc) α}
    (hS : SemLoc.dma sS = kloc ks) (hR : SemLoc.dma sem = kloc kr) (q : PosShare TreeShare) (V : s.Idx → Elt F e) (X : sProp 𝕄)
    (hN : dst.view.amount (SemLoc.dma sem) = amt kr.val) (hks : amt ks.val = amt kr.val)
    (hd₁ : false ∈ dut ks.val rs) (hd₂ : false ∈ dut kr.val rr)
    (hp₁ : mv m c src q V ⊢ pay m c ks.val rs false)
    (hp₂ : iprop(mv m (fwd dir c) dst fullShare V ∗ X) ⊢ pay m (fwd dir c) kr.val rr false) :
    iprop(Ctx m K ∗ mv m c src q V ∗ any (fwd dir c) dst ∗ X ∗ Ow c (⟨dir, kr, ix⟩ :: l) ∗ Tok c ks rs false ∗ Rch c ks rs
        ∗ Tok (fwd dir c) kr rr false ∗ Rch (fwd dir c) kr rr)
      ⊢ iprop((Cr c ks false (amt ks.val) ∗ Ow c l -∗ WP c (p ⟨⟩) Q)
          -∗ WP c (.op (.enqueueDma src (.remote (Dev.tc n : Thread nD τ) dst (.dma sS) hsc) (.dma sem) hsrc hdst hsem) p) Q) := by
  subst hn
  iintro ⟨#HC, HS, HD, HX, HO, HT1, HR1, HT2, HR2⟩ Hk
  unfold Ow any
  icases HO with ⟨%W, HO⟩
  icases HD with ⟨%fd, HD⟩
  have hrd : src.view.read (Elt F) (src.view.write (Elt F) (m (src.view.loc (c : Thread nD τ))) V Finset.univ) = V := View.read_write_univ ..
  have h1 : false ∈ (Rd (F := F) m).duties ((c : Thread nD τ), SemLoc.dma sS) rs := by
    rw [hS]; show false ∈ (Rd m).duties (cell c ks) rs; rw [duties_cell]; exact hd₁
  have h2 : false ∈ (Rd (F := F) m).duties ((fwd dir c : Thread nD τ), SemLoc.dma sem) rr := by
    rw [hR]; show false ∈ (Rd m).duties (cell (fwd dir c) kr) rr; rw [duties_cell]; exact hd₂
  have h3 : (Rd (F := F) m).amount ((c : Thread nD τ), SemLoc.dma sS) rs false = amt kr.val := by
    rw [hS]; show (Rd m).amount (cell c ks) rs false = _; rw [amount_cell]; exact hks
  have h4 : (Rd (F := F) m).amount ((fwd dir c : Thread nD τ), SemLoc.dma sem) rr false = amt kr.val := by
    rw [hR]; show (Rd m).amount (cell (fwd dir c) kr) rr false = _; rw [amount_cell]
  have h5 : owed c (⟨dir, kr, ix⟩ :: l) = owed c l + tallyAt ((fwd dir c : Thread nD τ), SemLoc.dma sem) ix (amt kr.val) := by
    rw [hR]; rfl
  have h6 : (src.view.loc (c : Thread nD τ) ↦[src.view.set]{q} (src.view.write (Elt F) (m (src.view.loc (c : Thread nD τ))) V Finset.univ) : sProp 𝕄)
      ⊢ (Rd m).payload ((c : Thread nD τ), SemLoc.dma sS) rs false := by
    rw [hS]; show _ ⊢ (Rd m).payload (cell c ks) rs false; rw [payload_cell]; exact hp₁
  have h7 : iprop((dst.view.loc (fwd dir c : Thread nD τ) ↦[dst.view.set]{fullShare} (dst.view.write (Elt F) fd
        (src.view.read (Elt F) (src.view.write (Elt F) (m (src.view.loc (c : Thread nD τ))) V Finset.univ)) Finset.univ)) ∗ X)
      ⊢ (Rd m).payload ((fwd dir c : Thread nD τ), SemLoc.dma sem) rr false := by
    rw [hR, hrd, mv_landed]; show _ ⊢ (Rd m).payload (cell (fwd dir c) kr) rr false; rw [payload_cell]; exact hp₂
  iapply (Rounds.wp_send_pointsTo_with 𝒱₀ ER (Rd m) (c : Thread nD τ) none (c' := (fwd dir c : Thread nD τ)) (κ₁ := K (c, ks)) (κ₂ := K (fwd dir c, kr))
    (src := src) (dst := dst) (sS := .dma sS) (sem := .dma sem) (q := q) (F := X)
    (fs := src.view.write (Elt F) (m (src.view.loc (c : Thread nD τ))) V Finset.univ) (fd := fd) (r₁ := rs) (r₂ := rr) (d₁ := false) (d₂ := false)
    h1 h2 ix false (amt kr.val) hN h3 h4 (O₀ := owed c (⟨dir, kr, ix⟩ :: l)) (owed c l) h5 (W := W) h6 h7)
    $$ [HS HD HX HO HT1 HR1 HT2 HR2]
  · rw [hS, hR]
    unfold Tok
    isplitr
    · iapply (ctx_inv m K c ks); iexact HC
    isplitr
    · iapply (ctx_inv m K (fwd dir c) kr); iexact HC
    isplitl [HS]; · unfold mv; iexact HS
    isplitl [HD HX]
    · isplitl [HD]; · iexact HD
      iexact HX
    isplitl [HO]; · iexact HO
    isplitl [HT1]; · iexact HT1
    isplitl [HR1]; · iexact HR1
    isplitl [HT2]; · iexact HT2
    iexact HR2
  rw [hS, hks]
  iintro ⟨HCr, HO⟩
  iapply Hk
  isplitl [HCr]; · unfold Cr; iexact HCr
  iexists W; iexact HO

/-- The same in the first rounds, with nothing beside it. -/
theorem send_step (n : Dev nD) (dir : Fin 4) (hn : n = fwd dir c) (ks kr : Fin 29) (ix : Bool) (l : List Due)
    {s : Shape} {e : EltTy} {src dst : Memref sig .tc .vmem s e} {sS sem : DmaSem sig} {hsc : dst.view.ref.isScScratch = false}
    {hsrc : src.view.WordExact} {hdst : dst.view.WordExact}
    {hsem : DmaTarget.Typed (nD := nD) (τ := τ) .vmem (.dma sem) (.remote (Dev.tc n : Thread nD τ) dst (.dma sS) hsc)}
    {α : Type} {Q : α → sProp 𝕄} {p : PUnit → Prog (TpuEff nD τ sig (Elt F) Λ₀ .tc) α}
    (hS : SemLoc.dma sS = kloc ks) (hR : SemLoc.dma sem = kloc kr) (q : PosShare TreeShare) (V : s.Idx → Elt F e)
    (hN : dst.view.amount (SemLoc.dma sem) = amt kr.val) (hks : amt ks.val = amt kr.val)
    (hd₁ : false ∈ dut ks.val 0) (hd₂ : false ∈ dut kr.val 0)
    (hp₁ : mv m c src q V ⊢ pay m c ks.val 0 false)
    (hp₂ : mv m (fwd dir c) dst fullShare V ⊢ pay m (fwd dir c) kr.val 0 false) :
    iprop(Ctx m K ∗ mv m c src q V ∗ any (fwd dir c) dst ∗ Ow c (⟨dir, kr, ix⟩ :: l) ∗ Tok c ks 0 false ∗ Tok (fwd dir c) kr 0 false)
      ⊢ iprop((Cr c ks false (amt ks.val) ∗ Ow c l -∗ WP c (p ⟨⟩) Q)
          -∗ WP c (.op (.enqueueDma src (.remote (Dev.tc n : Thread nD τ) dst (.dma sS) hsc) (.dma sem) hsrc hdst hsem) p) Q) := by
  have h1 : iprop(mv m (fwd dir c) dst fullShare V ∗ emp) ⊢ pay m (fwd dir c) kr.val 0 false := by
    iintro ⟨H, -⟩; iapply hp₂; iexact H
  iintro ⟨#HC, HS, HD, HO, HT1, HT2⟩ Hk
  iapply (send_gen m K c n dir hn ks kr 0 0 ix l hS hR q V iprop(emp) hN hks hd₁ hd₂ hp₁ h1) $$ [HS HD HO HT1 HT2]
  · isplitr; · iexact HC
    isplitl [HS]; · iexact HS
    isplitl [HD]; · iexact HD
    isplitr; · iempintro
    isplitl [HO]; · iexact HO
    isplitl [HT1]; · iexact HT1
    isplitr; · iapply (ctx_rch m K c ks); iexact HC
    isplitl [HT2]; · iexact HT2
    iapply (ctx_rch m K (fwd dir c) kr); iexact HC
  iexact Hk

/-- The barrier's two payments. -/
theorem barrier_pay : bigSep (dut 2 0) (fun d => pay m c 2 0 d)
    ⊢ iprop((any (rt c) a0 ∗ any (rt c) a1 ∗ any (rt c) (oLo c) ∗ any (rt c) (oHi c) ∗ any (rt c) g2)
      ∗ any (lf c) b0 ∗ any (lf c) b1 ∗ any (lf c) (oLo c) ∗ any (lf c) (oHi c) ∗ any (lf c) g0
        ∗ any (lf c) (oLo (rt c)) ∗ any (lf c) (oHi (rt c)) ∗ any (lf c) g1) := by
  rw [show dut 2 0 = insert true {false} from rfl, bigSep_insert (by decide), bigSep_singleton]
  exact .rfl

/-- A credit's one payment. -/
theorem credit_pay (k : Fin 29) (hk : dut k.val 0 = {false}) : bigSep (dut k.val 0) (fun d => pay m c k.val 0 d) ⊢ pay m c k.val 0 false := by
  rw [hk, bigSep_singleton]

/-! ## The loads of the received magnitudes -/

/-- Reading one element of a slot of the received magnitudes. -/
theorem load_corner (R : Rect S3x8x128) (hR : ∀ a, R.stride a = 1) (hq : R.shape.Squeezes S8x128) (R' : Rect S3x8x128) (hsh : R'.shape = S1x1x1)
    (V : S8x128.Idx → Elt F .f32)
    (hi : ∀ j : R'.shape.Idx, R'.emb j = R.emb (Shape.reshapeEquiv hq.numel_eq (fun _ => ⟨0, by decide +revert⟩)))
    (W : R'.shape.Idx → Elt F .f32) (hW : W = fun _ => V (fun _ => ⟨0, by decide +revert⟩))
    {hl : gM.view.LoadsAt R'.toLoadRect} {α : Type} {Q : α → sProp 𝕄} {k : (R'.shape.Idx → Elt F .f32) → Prog (TpuEff nD τ sig (Elt F) Λ₀ .tc) α} :
    mv m c ((gM.slice R hR).squeeze S8x128 hq) fullShare V
      ⊢ iprop((mv m c ((gM.slice R hR).squeeze S8x128 hq) fullShare V -∗ WP c (k W) Q)
          -∗ WP c (.op (.load gM R'.toLoadRect hl) k) Q) := by
  subst hW
  have he : ∀ j : R'.shape.Idx, (gM.access R').emb j = ((gM.slice R hR).squeeze S8x128 hq).view.emb (fun _ => ⟨0, by decide +revert⟩) := fun j => by
    show gM.view.emb (R'.emb j) = gM.view.emb (R.emb (Shape.reshapeEquiv hq.numel_eq _))
    rw [hi j]
  have hS : (gM.access R').set ⊆ ((gM.slice R hR).squeeze S8x128 hq).view.set := by
    intro i h
    obtain ⟨j, -, rfl⟩ := Finset.mem_map.1 h
    rw [he j]
    exact View.emb_mem_set _ _
  have key := wp_load_rect (Ix := Bool) (Name := ℕ) (Lvl := ℕ) (U := UU) (defs := defs₀ (F := F)) (Γ := PendingWaitsCtx.empty) 𝒱₀ (c : Thread nD τ) none Set.univ (Q := Q) (m := gM) (r := R') (hl := hl) (k := k) (q := fullShare)
    (f := ((gM.slice R hR).squeeze S8x128 hq).view.write (Elt F) (m (((gM.slice R hR).squeeze S8x128 hq).view.loc (c : Thread nD τ))) V Finset.univ) hS
  have hv : (gM.access R').read (Elt F) (((gM.slice R hR).squeeze S8x128 hq).view.write (Elt F) (m (((gM.slice R hR).squeeze S8x128 hq).view.loc (c : Thread nD τ))) V Finset.univ)
      = fun _ => V (fun _ => ⟨0, by decide +revert⟩) := by
    funext j
    have h2 := congrFun (View.read_write_univ (v := ((gM.slice R hR).squeeze S8x128 hq).view) (m (((gM.slice R hR).squeeze S8x128 hq).view.loc (c : Thread nD τ))) V)
      (fun _ => ⟨0, by decide +revert⟩)
    rw [View.read_apply] at h2 ⊢
    rw [← h2, he j]
  rw [hv] at key
  exact key

theorem z2 : (![0, 0] : Fin 2 → ℕ) = fun _ => 0 := by decide

/-- Returning. -/
theorem ret_step {α : Type} {Q : α → sProp 𝕄} {a : α} : Q a ⊢ WP c (.ret a) Q := by
  unfold WP
  rw [wp_ret]
  exact fupd_intro

/-- The end of a program, where invariants may still be opened. -/
theorem ret_late {α : Type} {Q : α → sProp 𝕄} {a : α} : iprop(|={Set.univ}=> Q a) ⊢ WP c (.ret a) Q := by
  unfold WP
  rw [wp_ret]

/-- A program that runs one part and then the rest. -/
theorem bind_step {α β : Type} {p : Prog (TpuEff nD τ sig (Elt F) Λ₀ .tc) α} {f : α → Prog (TpuEff nD τ sig (Elt F) Λ₀ .tc) β} {Q : β → sProp 𝕄} :
    WP c p (fun v => WP c (f v) Q) ⊢ WP c (p >>= f) Q := by
  unfold WP
  exact Entails.of_eq (wp_bind _ _ _ p f Q).symm

/-- The credit of a copy depends on the shape of the window only. -/
theorem crW (M : Memref sig .tc .vmem S4096x256 .f32) {k : ℕ} (h : amt k = NW) : M.view.dmaCredit = amt k := h.symm
theorem crR (M : Memref sig .tc .vmem S1024x256 .f32) {k : ℕ} (h : amt k = NR) : M.view.dmaCredit = amt k := h.symm
theorem crA (M : Memref sig .tc .vmem S8x128 .f32) {k : ℕ} (h : amt k = NA) : M.view.dmaCredit = amt k := h.symm
theorem amW (M : Memref sig .tc .vmem S4096x256 .f32) (s : DmaSem sig) {k : ℕ} (h : amt k = NW) : M.view.amount (SemLoc.dma s) = amt k := h.symm
theorem amR (M : Memref sig .tc .vmem S1024x256 .f32) (s : DmaSem sig) {k : ℕ} (h : amt k = NR) : M.view.amount (SemLoc.dma s) = amt k := h.symm
theorem amA (M : Memref sig .tc .vmem S8x128 .f32) (s : DmaSem sig) {k : ℕ} (h : amt k = NA) : M.view.amount (SemLoc.dma s) = amt k := h.symm

theorem word1 : (1#32).toInt = ((1 : ℕ) : ℤ) := by decide
theorem word2 : (2#32).toInt = ((2 : ℕ) : ℤ) := by decide

/-- Where the first element of a slot of the received magnitudes lies. -/
theorem corner_slot {k : ℕ} (inb : ∀ d, (![k, 0, 0] : Fin 3 → ℕ) d + S1x8x128.size d ≤ S3x8x128.size d)
    (inb' : ∀ d, (![k, 0, 0] : Fin 3 → ℕ) d + S1x1x1.size d ≤ S3x8x128.size d)
    (j : (Rect.unit (s := S3x8x128) ![k, 0, 0] S1x1x1.size inb').shape.Idx) :
    (Rect.unit (s := S3x8x128) ![k, 0, 0] S1x1x1.size inb').emb j
      = (Rect.unit (s := S3x8x128) ![k, 0, 0] S1x8x128.size inb).emb
          (Shape.reshapeEquiv (Shape.Squeezes.numel_eq squeezes_S1x8x128_S8x128) (fun _ => ⟨0, by decide +revert⟩)) := by
  have h0 : ∀ a : Fin 3, (j a).val = 0 := fun a => by
    have := (j a).isLt
    revert this
    match a with
    | 0 => exact fun h => Nat.lt_one_iff.1 h
    | 1 => exact fun h => Nat.lt_one_iff.1 h
    | 2 => exact fun h => Nat.lt_one_iff.1 h
  have h1 : ∀ a : Fin 3, ((Shape.reshapeEquiv (Shape.Squeezes.numel_eq squeezes_S1x8x128_S8x128) (fun _ => ⟨0, by decide +revert⟩)) a).val = 0 := by
    decide +kernel
  funext a
  apply Fin.ext
  rw [Rect.emb_apply, Rect.emb_apply]
  exact congrArg₂ (fun x y : ℕ => x + y) rfl (by simp only [h0 a, h1 a]; rfl)

end Cert.RingGemm

end
-- ==== Proof.Whole.lean ====
/-
# Whole buffers and their windows

A buffer is its slots; a device's columns are their two halves; the staged result is the device's own rows
and the halves of the others' rows, and once all products have come it holds them side by side.
-/
module

public import proofs.«01_k».proof.Proof.Steps
public import Idealize.ShloMosaic.Lib.Pointwise.Index

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (c : Dev nD)

/-- Owning disjoint parts of a buffer is owning them together. -/
theorem own_split {ℓ : Loc nD τ sig} {I J : Finset (Idx ℓ)} (h : Disjoint I J) :
    (iprop(∃ f : Buf (Elt F) ℓ, ℓ ↦[I ∪ J]{fullShare} f) : sProp 𝕄) ⊣⊢ iprop((∃ f : Buf (Elt F) ℓ, ℓ ↦[I]{fullShare} f) ∗ ∃ f : Buf (Elt F) ℓ, ℓ ↦[J]{fullShare} f) := by
  constructor
  · iintro ⟨%f, H⟩
    ihave H' := (pointsTo_union (f := f) h).1 $$ H
    icases H' with ⟨H1, H2⟩
    isplitl [H1]
    · iexists f; iexact H1
    iexists f; iexact H2
  · iintro ⟨⟨%f, H1⟩, ⟨%g, H2⟩⟩
    ihave H := (pointsTo_join (f := f) (g := g) h) $$ [H1 H2]
    · isplitl [H1]; · iexact H1
      iexact H2
    iexists _
    iexact H

theorem slots_disj {t : Shape} {I J : Finset t.Idx} {p q : t.Idx → Prop} (hI : ∀ i, i ∈ I ↔ p i) (hJ : ∀ i, i ∈ J ↔ q i) (h : ∀ i, p i → ¬ q i) : Disjoint I J :=
  Finset.disjoint_left.2 fun i h1 h2 => h i ((hI i).1 h1) ((hJ i).1 h2)

/-- The two slots of the first ring's buffer. -/
theorem two_aM : (any (F := F) c aM : sProp 𝕄) ⊣⊢ iprop(any c a0 ∗ any c a1) := by
  have hd : Disjoint a0.view.set a1.view.set := slots_disj mem_a0 mem_a1 (fun i h h' => by omega)
  have hu : aM.view.set = a0.view.set ∪ a1.view.set := by
    rw [View.set_whole]
    ext i
    have h0 : (i 0).val < 2 := (i 0).isLt
    simp only [Finset.mem_univ, Finset.mem_union, true_iff, mem_a0 i, mem_a1 i]
    omega
  unfold any
  rw [hu]
  exact own_split (ℓ := aM.view.loc (c : Thread nD τ)) hd

/-- The two slots of the second ring's buffer. -/
theorem two_bM : (any (F := F) c bM : sProp 𝕄) ⊣⊢ iprop(any c b0 ∗ any c b1) := by
  have hd : Disjoint b0.view.set b1.view.set := slots_disj mem_b0 mem_b1 (fun i h h' => by omega)
  have hu : bM.view.set = b0.view.set ∪ b1.view.set := by
    rw [View.set_whole]
    ext i
    have h0 : (i 0).val < 2 := (i 0).isLt
    simp only [Finset.mem_univ, Finset.mem_union, true_iff, mem_b0 i, mem_b1 i]
    omega
  unfold any
  rw [hu]
  exact own_split (ℓ := bM.view.loc (c : Thread nD τ)) hd

/-- The four slots of the buffer of products. -/
theorem four_pM : (any (F := F) c pM : sProp 𝕄) ⊣⊢ iprop(any c p0 ∗ any c p1 ∗ any c p2 ∗ any c p3) := by
  have h23 : Disjoint p2.view.set p3.view.set := slots_disj mem_p2 mem_p3 (fun i h h' => by omega)
  have h1 : Disjoint p1.view.set (p2.view.set ∪ p3.view.set) :=
    Finset.disjoint_union_right.2 ⟨slots_disj mem_p1 mem_p2 (fun i h h' => by omega), slots_disj mem_p1 mem_p3 (fun i h h' => by omega)⟩
  have h0 : Disjoint p0.view.set (p1.view.set ∪ (p2.view.set ∪ p3.view.set)) :=
    Finset.disjoint_union_right.2 ⟨slots_disj mem_p0 mem_p1 (fun i h h' => by omega),
      Finset.disjoint_union_right.2 ⟨slots_disj mem_p0 mem_p2 (fun i h h' => by omega), slots_disj mem_p0 mem_p3 (fun i h h' => by omega)⟩⟩
  have hu : pM.view.set = p0.view.set ∪ (p1.view.set ∪ (p2.view.set ∪ p3.view.set)) := by
    rw [View.set_whole]
    ext i
    have h0 : (i 0).val < 4 := (i 0).isLt
    simp only [Finset.mem_univ, Finset.mem_union, true_iff, mem_p0 i, mem_p1 i, mem_p2 i, mem_p3 i]
    omega
  unfold any
  rw [hu]
  exact (own_split (ℓ := pM.view.loc (c : Thread nD τ)) h0).trans (sep_congr .rfl
    ((own_split (ℓ := pM.view.loc (c : Thread nD τ)) h1).trans (sep_congr .rfl (own_split (ℓ := pM.view.loc (c : Thread nD τ)) h23))))

/-- The three slots for the others' magnitudes. -/
theorem three_gM : (any (F := F) c gM : sProp 𝕄) ⊣⊢ iprop(any c g0 ∗ any c g1 ∗ any c g2) := by
  have h1 : Disjoint g1.view.set g2.view.set := slots_disj mem_g1 mem_g2 (fun i h h' => by omega)
  have h0 : Disjoint g0.view.set (g1.view.set ∪ g2.view.set) :=
    Finset.disjoint_union_right.2 ⟨slots_disj mem_g0 mem_g1 (fun i h h' => by omega), slots_disj mem_g0 mem_g2 (fun i h h' => by omega)⟩
  have hu : gM.view.set = g0.view.set ∪ (g1.view.set ∪ g2.view.set) := by
    rw [View.set_whole]
    ext i
    have h0 : (i 0).val < 3 := (i 0).isLt
    simp only [Finset.mem_univ, Finset.mem_union, true_iff, mem_g0 i, mem_g1 i, mem_g2 i]
    omega
  unfold any
  rw [hu]
  exact (own_split (ℓ := gM.view.loc (c : Thread nD τ)) h0).trans (sep_congr .rfl (own_split (ℓ := gM.view.loc (c : Thread nD τ)) h1))

/-- A device's columns are their halves. -/
theorem halves_wM (q : PosShare TreeShare) : (mv m c wM q (wv m c) : sProp 𝕄) ⊣⊢ iprop(mv m c wLo q (wL m c) ∗ mv m c wHi q (wH m c)) := by
  have hd : Disjoint wLo.view.set wHi.view.set := slots_disj mem_wLo mem_wHi (fun i h h' => by omega)
  have hu : wM.view.set = wLo.view.set ∪ wHi.view.set := by
    rw [View.set_whole]
    ext i
    simp only [Finset.mem_univ, Finset.mem_union, true_iff, mem_wLo i, mem_wHi i]
    omega
  rw [← mv_of_read m c wM q (wv m c) (wv m c) rfl, ← mv_of_read m c wLo q (wv m c) (wL m c) rfl, ← mv_of_read m c wHi q (wv m c) (wH m c) rfl, hu]
  exact pointsTo_union hd

/-! ## The staged result -/

/-- The seven windows of the staged result. -/
theorem rt_val : (rt c).val = (c.val + 1) % 4 := by revert c; decide
theorem op_val : (op c).val = (c.val + 2) % 4 := by revert c; decide
theorem lf_val : (lf c).val = (c.val + 3) % 4 := by revert c; decide

theorem rows_union : (Finset.univ : Finset S4096x512.Idx) = (oRow c).view.set ∪ ((oLo (rt c)).view.set ∪ ((oHi (rt c)).view.set ∪ ((oLo (op c)).view.set
    ∪ ((oHi (op c)).view.set ∪ ((oLo (lf c)).view.set ∪ (oHi (lf c)).view.set))))) := by
  ext i
  have h0 : (i 0).val < 4096 := (i 0).isLt
  have hcol : (i 1).val < 512 := (i 1).isLt
  have h1 := rt_val c; have h2 := op_val c; have h3 := lf_val c
  have hc : c.val < 4 := c.isLt
  simp only [Finset.mem_univ, Finset.mem_union, true_iff, mem_oRow c i, mem_oLo (rt c) i, mem_oHi (rt c) i, mem_oLo (op c) i, mem_oHi (op c) i, mem_oLo (lf c) i, mem_oHi (lf c) i]
  omega

theorem rows_disj :
    Disjoint (oRow c).view.set ((oLo (rt c)).view.set ∪ ((oHi (rt c)).view.set ∪ ((oLo (op c)).view.set ∪ ((oHi (op c)).view.set ∪ ((oLo (lf c)).view.set ∪ (oHi (lf c)).view.set)))))
    ∧ Disjoint (oLo (rt c)).view.set ((oHi (rt c)).view.set ∪ ((oLo (op c)).view.set ∪ ((oHi (op c)).view.set ∪ ((oLo (lf c)).view.set ∪ (oHi (lf c)).view.set))))
    ∧ Disjoint (oHi (rt c)).view.set ((oLo (op c)).view.set ∪ ((oHi (op c)).view.set ∪ ((oLo (lf c)).view.set ∪ (oHi (lf c)).view.set)))
    ∧ Disjoint (oLo (op c)).view.set ((oHi (op c)).view.set ∪ ((oLo (lf c)).view.set ∪ (oHi (lf c)).view.set))
    ∧ Disjoint (oHi (op c)).view.set ((oLo (lf c)).view.set ∪ (oHi (lf c)).view.set)
    ∧ Disjoint (oLo (lf c)).view.set (oHi (lf c)).view.set := by
  have h1 := rt_val c; have h2 := op_val c; have h3 := lf_val c
  have hc : c.val < 4 := c.isLt
  refine ⟨?_, ?_, ?_, ?_, ?_, ?_⟩ <;>
  · rw [Finset.disjoint_left]
    intro i
    simp only [Finset.mem_union, mem_oRow c i, mem_oLo (rt c) i, mem_oHi (rt c) i, mem_oLo (op c) i, mem_oHi (op c) i, mem_oLo (lf c) i, mem_oHi (lf c) i]
    omega

theorem seven_oM : (any (F := F) c oM : sProp 𝕄) ⊢ iprop(any c (oRow c) ∗ any c (oLo (rt c)) ∗ any c (oHi (rt c)) ∗ any c (oLo (op c)) ∗ any c (oHi (op c))
    ∗ any c (oLo (lf c)) ∗ any c (oHi (lf c))) := by
  obtain ⟨d1, d2, d3, d4, d5, d6⟩ := rows_disj c
  unfold any
  rw [show oM.view.set = Finset.univ from View.set_whole _, rows_union c]
  exact ((own_split (ℓ := oM.view.loc (c : Thread nD τ)) d1).trans (sep_congr .rfl ((own_split (ℓ := oM.view.loc (c : Thread nD τ)) d2).trans (sep_congr .rfl
    ((own_split (ℓ := oM.view.loc (c : Thread nD τ)) d3).trans (sep_congr .rfl ((own_split (ℓ := oM.view.loc (c : Thread nD τ)) d4).trans (sep_congr .rfl
    ((own_split (ℓ := oM.view.loc (c : Thread nD τ)) d5).trans (sep_congr .rfl (own_split (ℓ := oM.view.loc (c : Thread nD τ)) d6))))))))))).1

/-- The products of device `e`'s rows with the left and with the right half of device `c`'s columns, for `e` another device. -/
def lowP (c e : Dev nD) : S1x1024x256.Idx → Elt F .f32 := if e = rt c then prLL m e else if e = op c then prOL m e else prRL m e
def highP (c e : Dev nD) : S1x1024x256.Idx → Elt F .f32 := if e = rt c then prLH m e else if e = op c then prOH m e else prRH m e

/-- All the products of device `c`'s columns, side by side. -/
def OUT : S4096x512.Idx → Elt F .f32 := fun i =>
  if (i 0).val / 1024 = c.val then prOwn m c (ix2 ⟨(i 0).val % 1024, Nat.mod_lt _ (by decide)⟩ (i 1))
  else if (i 1).val < 256 then
    sent (lowP m c ⟨(i 0).val / 1024, Nat.div_lt_of_lt_mul (i 0).isLt⟩) (ix2 ⟨(i 0).val % 1024, Nat.mod_lt _ (by decide)⟩ ⟨(i 1).val % 256, Nat.mod_lt _ (by decide)⟩)
  else
    sent (highP m c ⟨(i 0).val / 1024, Nat.div_lt_of_lt_mul (i 0).isLt⟩) (ix2 ⟨(i 0).val % 1024, Nat.mod_lt _ (by decide)⟩ ⟨(i 1).val % 256, Nat.mod_lt _ (by decide)⟩)

theorem emb_oLo (e : Dev nD) (j : S1024x256.Idx) : (((oLo e).view.emb j) 0).val = 1024 * e.val + (j 0).val ∧ (((oLo e).view.emb j) 1).val = (j 1).val := by
  constructor
  · show k0_off2 e 0 + 1 * (j 0).val = _
    rw [off2]; simp
  · show k0_off2 e 1 + 1 * (j 1).val = _
    rw [off2]; simp
theorem emb_oHi (e : Dev nD) (j : S1024x256.Idx) : (((oHi e).view.emb j) 0).val = 1024 * e.val + (j 0).val ∧ (((oHi e).view.emb j) 1).val = 256 + (j 1).val := by
  constructor
  · show k0_off3 e 0 + 1 * (j 0).val = _
    rw [off3]; simp
  · show k0_off3 e 1 + 1 * (j 1).val = _
    rw [off3]; simp
theorem emb_oRow (e : Dev nD) (j : S1024x512.Idx) : (((oRow e).view.emb j) 0).val = 1024 * e.val + (j 0).val ∧ (((oRow e).view.emb j) 1).val = (j 1).val := by
  constructor
  · show k0_off1 e 0 + 1 * (j 0).val = _
    rw [off1]; simp
  · show k0_off1 e 1 + 1 * (j 1).val = _
    rw [off1]; simp

theorem read_row : (oRow c).view.read (Elt F) (OUT m c) = prOwn m c := by
  funext j
  show OUT m c ((oRow c).view.emb j) = _
  obtain ⟨h0, h1⟩ := emb_oRow c j
  have hj : (j 0).val < 1024 := (j 0).isLt
  unfold OUT
  rw [if_pos (by omega)]
  congr 1
  refine (eq_ix2 _).trans (Eq.trans ?_ (eq_ix2 j).symm)
  congr 1
  · exact Fin.ext (show (((oRow c).view.emb j) 0).val % 1024 = (j 0).val by omega)
  · exact Fin.ext h1

theorem read_lo (e : Dev nD) (he : e ≠ c) : (oLo e).view.read (Elt F) (OUT m c) = sent (lowP m c e) := by
  funext j
  show OUT m c ((oLo e).view.emb j) = _
  obtain ⟨h0, h1⟩ := emb_oLo e j
  have hj : (j 0).val < 1024 := (j 0).isLt
  have hj1 : (j 1).val < 256 := (j 1).isLt
  have hne : e.val ≠ c.val := fun h => he (Fin.ext h)
  have hd : (((oLo e).view.emb j) 0).val / 1024 = e.val := by omega
  unfold OUT
  rw [if_neg (by omega), if_pos (by omega)]
  congr 1
  · congr 2
  · refine (eq_ix2 _).trans (Eq.trans ?_ (eq_ix2 j).symm)
    congr 1
    · exact Fin.ext (show (((oLo e).view.emb j) 0).val % 1024 = (j 0).val by omega)
    · exact Fin.ext (show (((oLo e).view.emb j) 1).val % 256 = (j 1).val by omega)

theorem read_hi (e : Dev nD) (he : e ≠ c) : (oHi e).view.read (Elt F) (OUT m c) = sent (highP m c e) := by
  funext j
  show OUT m c ((oHi e).view.emb j) = _
  obtain ⟨h0, h1⟩ := emb_oHi e j
  have hj : (j 0).val < 1024 := (j 0).isLt
  have hj1 : (j 1).val < 256 := (j 1).isLt
  have hne : e.val ≠ c.val := fun h => he (Fin.ext h)
  have hd : (((oHi e).view.emb j) 0).val / 1024 = e.val := by omega
  unfold OUT
  rw [if_neg (by omega), if_neg (by omega)]
  congr 1
  · congr 2
  · refine (eq_ix2 _).trans (Eq.trans ?_ (eq_ix2 j).symm)
    congr 1
    · exact Fin.ext (show (((oHi e).view.emb j) 0).val % 1024 = (j 0).val by omega)
    · exact Fin.ext (show (((oHi e).view.emb j) 1).val % 256 = (j 1).val by omega)

theorem rt_ne : rt c ≠ c := by revert c; decide
theorem op_ne : op c ≠ c := by revert c; decide
theorem lf_ne : lf c ≠ c := by revert c; decide
theorem op_ne_rt : op c ≠ rt c := by revert c; decide
theorem lf_ne_rt : lf c ≠ rt c := by revert c; decide
theorem lf_ne_op : lf c ≠ op c := by revert c; decide

/-- When every product has come, the staged result holds them side by side. -/
theorem gathered : iprop(mv m c (oRow c) fullShare (prOwn m c) ∗ mv m c (oLo (rt c)) fullShare (sent (prLL m (rt c))) ∗ mv m c (oHi (rt c)) fullShare (sent (prLH m (rt c)))
      ∗ mv m c (oLo (op c)) fullShare (sent (prOL m (op c))) ∗ mv m c (oHi (op c)) fullShare (sent (prOH m (op c)))
      ∗ mv m c (oLo (lf c)) fullShare (sent (prRL m (lf c))) ∗ mv m c (oHi (lf c)) fullShare (sent (prRH m (lf c))))
    ⊢ mv m c oM fullShare (OUT m c) := by
  obtain ⟨d1, d2, d3, d4, d5, d6⟩ := rows_disj c
  have e1 : lowP m c (rt c) = prLL m (rt c) := if_pos rfl
  have e2 : highP m c (rt c) = prLH m (rt c) := if_pos rfl
  have e3 : lowP m c (op c) = prOL m (op c) := (if_neg (op_ne_rt c)).trans (if_pos rfl)
  have e4 : highP m c (op c) = prOH m (op c) := (if_neg (op_ne_rt c)).trans (if_pos rfl)
  have e5 : lowP m c (lf c) = prRL m (lf c) := (if_neg (lf_ne_rt c)).trans (if_neg (lf_ne_op c))
  have e6 : highP m c (lf c) = prRH m (lf c) := (if_neg (lf_ne_rt c)).trans (if_neg (lf_ne_op c))
  have a0 : (mv m c (oRow c) fullShare (prOwn m c) : sProp 𝕄) = (oM.view.loc (c : Thread nD τ) ↦[(oRow c).view.set]{fullShare} (OUT m c)) :=
    (mv_of_read m c (oRow c) fullShare (OUT m c) _ (read_row m c)).symm
  have a1 : (mv m c (oLo (rt c)) fullShare (sent (prLL m (rt c))) : sProp 𝕄) = (oM.view.loc (c : Thread nD τ) ↦[(oLo (rt c)).view.set]{fullShare} (OUT m c)) :=
    (mv_of_read m c (oLo (rt c)) fullShare (OUT m c) _ ((read_lo m c _ (rt_ne c)).trans (by rw [e1]))).symm
  have a2 : (mv m c (oHi (rt c)) fullShare (sent (prLH m (rt c))) : sProp 𝕄) = (oM.view.loc (c : Thread nD τ) ↦[(oHi (rt c)).view.set]{fullShare} (OUT m c)) :=
    (mv_of_read m c (oHi (rt c)) fullShare (OUT m c) _ ((read_hi m c _ (rt_ne c)).trans (by rw [e2]))).symm
  have a3 : (mv m c (oLo (op c)) fullShare (sent (prOL m (op c))) : sProp 𝕄) = (oM.view.loc (c : Thread nD τ) ↦[(oLo (op c)).view.set]{fullShare} (OUT m c)) :=
    (mv_of_read m c (oLo (op c)) fullShare (OUT m c) _ ((read_lo m c _ (op_ne c)).trans (by rw [e3]))).symm
  have a4 : (mv m c (oHi (op c)) fullShare (sent (prOH m (op c))) : sProp 𝕄) = (oM.view.loc (c : Thread nD τ) ↦[(oHi (op c)).view.set]{fullShare} (OUT m c)) :=
    (mv_of_read m c (oHi (op c)) fullShare (OUT m c) _ ((read_hi m c _ (op_ne c)).trans (by rw [e4]))).symm
  have a5 : (mv m c (oLo (lf c)) fullShare (sent (prRL m (lf c))) : sProp 𝕄) = (oM.view.loc (c : Thread nD τ) ↦[(oLo (lf c)).view.set]{fullShare} (OUT m c)) :=
    (mv_of_read m c (oLo (lf c)) fullShare (OUT m c) _ ((read_lo m c _ (lf_ne c)).trans (by rw [e5]))).symm
  have a6 : (mv m c (oHi (lf c)) fullShare (sent (prRH m (lf c))) : sProp 𝕄) = (oM.view.loc (c : Thread nD τ) ↦[(oHi (lf c)).view.set]{fullShare} (OUT m c)) :=
    (mv_of_read m c (oHi (lf c)) fullShare (OUT m c) _ ((read_hi m c _ (lf_ne c)).trans (by rw [e6]))).symm
  have hw : (mv m c oM fullShare (OUT m c) : sProp 𝕄) = (oM.view.loc (c : Thread nD τ) ↦[Finset.univ]{fullShare} (OUT m c)) := by
    rw [← mv_of_read m c oM fullShare (OUT m c) (OUT m c) rfl, show oM.view.set = Finset.univ from View.set_whole _]
  have b6 := pointsTo_union (Ix := Bool) (Name := ℕ) (Lvl := ℕ) (U := UU) (ℓ := oM.view.loc (c : Thread nD τ)) (q := fullShare) (f := OUT m c) d6
  have b5 := pointsTo_union (Ix := Bool) (Name := ℕ) (Lvl := ℕ) (U := UU) (ℓ := oM.view.loc (c : Thread nD τ)) (q := fullShare) (f := OUT m c) d5
  have b4 := pointsTo_union (Ix := Bool) (Name := ℕ) (Lvl := ℕ) (U := UU) (ℓ := oM.view.loc (c : Thread nD τ)) (q := fullShare) (f := OUT m c) d4
  have b3 := pointsTo_union (Ix := Bool) (Name := ℕ) (Lvl := ℕ) (U := UU) (ℓ := oM.view.loc (c : Thread nD τ)) (q := fullShare) (f := OUT m c) d3
  have b2 := pointsTo_union (Ix := Bool) (Name := ℕ) (Lvl := ℕ) (U := UU) (ℓ := oM.view.loc (c : Thread nD τ)) (q := fullShare) (f := OUT m c) d2
  have b1 := pointsTo_union (Ix := Bool) (Name := ℕ) (Lvl := ℕ) (U := UU) (ℓ := oM.view.loc (c : Thread nD τ)) (q := fullShare) (f := OUT m c) d1
  rw [hw, a0, a1, a2, a3, a4, a5, a6, rows_union c]
  iintro ⟨H0, H1, H2, H3, H4, H5, H6⟩
  iapply b1.2; isplitl [H0]; · iexact H0
  iapply b2.2; isplitl [H1]; · iexact H1
  iapply b3.2; isplitl [H2]; · iexact H2
  iapply b4.2; isplitl [H3]; · iexact H3
  iapply b5.2; isplitl [H4]; · iexact H4
  iapply b6.2; isplitl [H5]; · iexact H5
  iexact H6

end Cert.RingGemm

end
-- ==== Proof.Meet.lean ====
/-
# The first part of the program

The devices meet, the first copies leave and the neighbours' half blocks arrive.
-/
module

public import proofs.«01_k».proof.Proof.Steps

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)
/-- The devices meet at the barrier and lend one another the windows the copies will write. -/
theorem part1 {Kt : (Σ' (_ : Dev nD) (_ : BitVec 32) (_ : BitVec 32), BitVec 32) → sProp 𝕄}  :
    iprop(Ctx m K ∗ Ow c (dues.drop 0) ∗ Tok (lf c) 2 0 true ∗ any c a0 ∗ any c a1 ∗ any c (oLo (lf c)) ∗ any c (oHi (lf c)) ∗ any c g2 ∗ Tok (rt c) 2 0 false ∗ any c b0 ∗ any c b1 ∗ any c (oLo (rt c)) ∗ any c (oHi (rt c)) ∗ any c g0 ∗ any c (oLo (op c)) ∗ any c (oHi (op c)) ∗ any c g1 ∗ Cr c 2 false 2 ∗ At c 2 0)
      ⊢ iprop((∀ (v2 v13 v24 : BitVec 32), Ow c (dues.drop 2) ∗ At c 2 1 ∗ Rch c 2 1 ∗ any (rt c) a0 ∗ any (rt c) a1 ∗ any (rt c) (oLo c) ∗ any (rt c) (oHi c) ∗ any (rt c) g2 ∗ any (lf c) b0 ∗ any (lf c) b1 ∗ any (lf c) (oLo c) ∗ any (lf c) (oHi c) ∗ any (lf c) g0 ∗ any (lf c) (oLo (rt c)) ∗ any (lf c) (oHi (rt c)) ∗ any (lf c) g1 -∗ Kt ⟨c, v2, v13, v24⟩)
          -∗ WP c (k0_part1 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 ) Kt) := by
  rw [k0_part1_eq_skeleton]
  unfold k0_part1_skel
  simp only [semSignalWord, semWaitWord, word1, word2, Prog.lift, Prog.bind_op, Prog.bind_ret, Prog.pure_eq_ret]
  iintro ⟨#HC, HO, h1, h2, h3, h4, h5, h6, h7, h8, h9, h10, h11, h12, h13, h14, h15, h16, h17⟩ Hk
  rw [show (dues.drop 0 : List Due) = ⟨3, 2, false⟩ :: dues.drop 1 from rfl]
  simp only [wp_deviceId]
  have hs1 : iprop(any c a0 ∗ any c a1 ∗ any c (oLo (lf c)) ∗ any c (oHi (lf c)) ∗ any c g2) ⊢ pay m (fwd 3 c) 2 0 true := Entails.of_eq (by show _ = iprop(any (rt (lf c)) a0 ∗ any (rt (lf c)) a1 ∗ any (rt (lf c)) (oLo (lf c)) ∗ any (rt (lf c)) (oHi (lf c)) ∗ any (rt (lf c)) g2); simp only [rt_lf, lf_rt, op_op, lf_lf, rt_rt, rt_op, lf_op, op_rt, op_lf])
  iapply (signal_step m K c _ 3 (dev1 c) 2 true false (dues.drop 1) rfl rfl (by decide) _ hs1) $$ [HO h1 h2 h3 h4 h5 h6]
  · isplitr; · iexact HC
    isplitl [HO]; · iexact HO
    isplitl [h1]; · iexact h1
    isplitl [h2]; · iexact h2
    isplitl [h3]; · iexact h3
    isplitl [h4]; · iexact h4
    isplitl [h5]; · iexact h5
    iexact h6
  iintro HO
  have hs2 : iprop(any c b0 ∗ any c b1 ∗ any c (oLo (rt c)) ∗ any c (oHi (rt c)) ∗ any c g0 ∗ any c (oLo (op c)) ∗ any c (oHi (op c)) ∗ any c g1) ⊢ pay m (fwd 1 c) 2 0 false := Entails.of_eq (by show _ = iprop(any (lf (rt c)) b0 ∗ any (lf (rt c)) b1 ∗ any (lf (rt c)) (oLo (rt c)) ∗ any (lf (rt c)) (oHi (rt c)) ∗ any (lf (rt c)) g0 ∗ any (lf (rt c)) (oLo (rt (rt c))) ∗ any (lf (rt c)) (oHi (rt (rt c))) ∗ any (lf (rt c)) g1); simp only [rt_lf, lf_rt, op_op, lf_lf, rt_rt, rt_op, lf_op, op_rt, op_lf])
  iapply (signal_step m K c _ 1 (dev2 c) 2 false false (dues.drop 2) rfl rfl (by decide) _ hs2) $$ [HO h7 h8 h9 h10 h11 h12 h13 h14 h15]
  · isplitr; · iexact HC
    isplitl [HO]; · iexact HO
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    iexact h15
  iintro HO
  iapply (wait_reg m K c 2 0 false (dues.drop 2) rfl rfl (by decide)) $$ [h16 HO h17]
  · isplitr; · iexact HC
    isplitl [h16]; · iexact h16
    isplitl [HO]; · iexact HO
    iexact h17
  iintro ⟨HO, h18, h19, HP⟩
  ihave HPP := (show bigSep (dut (2 : Fin 29).val 0) (fun d => pay m c (2 : Fin 29).val 0 d) ⊢ iprop((any (rt c) a0 ∗ any (rt c) a1 ∗ any (rt c) (oLo c) ∗ any (rt c) (oHi c) ∗ any (rt c) g2) ∗ any (lf c) b0 ∗ any (lf c) b1 ∗ any (lf c) (oLo c) ∗ any (lf c) (oHi c) ∗ any (lf c) g0 ∗ any (lf c) (oLo (rt c)) ∗ any (lf c) (oHi (rt c)) ∗ any (lf c) g1) from barrier_pay m c) $$ HP
  icases HPP with ⟨⟨h20, h21, h22, h23, h24⟩, h25, h26, h27, h28, h29, h30, h31, h32⟩
  iapply (ret_step c)
  iapply Hk
  isplitl [HO]; · iexact HO
  isplitl [h18]; · iexact h18
  isplitl [h19]; · iexact h19
  isplitl [h20]; · iexact h20
  isplitl [h21]; · iexact h21
  isplitl [h22]; · iexact h22
  isplitl [h23]; · iexact h23
  isplitl [h24]; · iexact h24
  isplitl [h25]; · iexact h25
  isplitl [h26]; · iexact h26
  isplitl [h27]; · iexact h27
  isplitl [h28]; · iexact h28
  isplitl [h29]; · iexact h29
  isplitl [h30]; · iexact h30
  isplitl [h31]; · iexact h31
  iexact h32

/-- The first copies leave, and the device multiplies by its own columns. -/
theorem part2 {Kt : (FVec F S1x1024x512 .f32) → sProp 𝕄} (v2 v13 v24 : BitVec 32) :
    iprop(Ctx m K ∗ Ow c (dues.drop 2) ∗ mv m c wLo fullShare.left (wL m c) ∗ any (rt c) a0 ∗ Tok c 3 0 false ∗ Tok (rt c) 5 0 false ∗ any (lf c) (oLo (rt c)) ∗ any (lf c) (oHi (rt c)) ∗ any (lf c) g1 ∗ mv m c wHi fullShare.left (wH m c) ∗ any (lf c) b0 ∗ Tok c 7 0 false ∗ Tok (lf c) 9 0 false ∗ mv m c xM fullShare (xv m c) ∗ mv m c wM fullShare.right (wv m c) ∗ any c (oRow c))
      ⊢ iprop((Ow c (dues.drop 4) ∗ Cr c 3 false NW ∗ Cr c 7 false NW ∗ mv m c xM fullShare (xv m c) ∗ mv m c wM fullShare.right (wv m c) ∗ mv m c (oRow c) fullShare (prOwn m c) -∗ Kt (k0_pay3 (prOwn m c)))
          -∗ WP c (k0_part2 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v13 v24) Kt) := by
  rw [k0_part2_eq_skeleton]
  unfold k0_part2_skel
  simp only [semSignalWord, semWaitWord, word1, word2, Prog.lift, Prog.bind_op, Prog.bind_ret, Prog.pure_eq_ret]
  iintro ⟨#HC, HO, h1, h2, h3, h4, h5, h6, h7, h9, h10, h11, h12, h14, h15, h16⟩ Hk
  have hs1 : iprop(mv m (rt c) a0 fullShare (wL m c) ∗ any (lf c) (oLo (rt c)) ∗ any (lf c) (oHi (rt c)) ∗ any (lf c) g1) ⊢ pay m (fwd 1 c) 5 0 false := Entails.of_eq (by show _ = iprop(mv m (rt c) a0 fullShare (wL m (lf (rt c))) ∗ any (op (rt c)) (oLo (rt c)) ∗ any (op (rt c)) (oHi (rt c)) ∗ any (op (rt c)) g1); simp only [rt_lf, lf_rt, op_op, lf_lf, rt_rt, rt_op, lf_op, op_rt, op_lf])
  iapply (send_gen m K c _ 1 (dev3 c) 3 5 0 0 false (dues.drop 3) (src := wLo) (dst := a0) rfl rfl fullShare.left (wL m c) (iprop(any (lf c) (oLo (rt c)) ∗ any (lf c) (oHi (rt c)) ∗ any (lf c) g1)) (amW _ _ rfl) rfl (by decide) (by decide) .rfl hs1) $$ [h1 h2 h5 h6 h7 HO h3 h4]
  · isplitr; · iexact HC
    isplitl [h1]; · iexact h1
    isplitl [h2]; · iexact h2
    isplitl [h5 h6 h7]
    · isplitl [h5]; · iexact h5
      isplitl [h6]; · iexact h6
      iexact h7
    isplitl [HO]; · iexact HO
    isplitl [h3]; · iexact h3
    isplitr; · iapply (ctx_rch m K c 3); iexact HC
    isplitl [h4]; · iexact h4
    iapply (ctx_rch m K (fwd 1 c) 5); iexact HC
  iintro ⟨h8, HO⟩
  have hs2 : mv m (lf c) b0 fullShare (wH m c) ⊢ pay m (fwd 3 c) 9 0 false := Entails.of_eq (by show _ = mv m (lf c) b0 fullShare (wH m (rt (lf c))); simp only [rt_lf, lf_rt, op_op, lf_lf, rt_rt, rt_op, lf_op, op_rt, op_lf])
  iapply (send_step m K c _ 3 (dev4 c) 7 9 false (dues.drop 4) (src := wHi) (dst := b0) rfl rfl fullShare.left (wH m c) (amW _ _ rfl) rfl (by decide) (by decide) .rfl hs2) $$ [h9 h10 HO h11 h12]
  · isplitr; · iexact HC
    isplitl [h9]; · iexact h9
    isplitl [h10]; · iexact h10
    isplitl [HO]; · iexact HO
    isplitl [h11]; · iexact h11
    iexact h12
  iintro ⟨h13, HO⟩
  iapply (load_full m c xM z2 _ fullShare (xv m c)) $$ [h14]
  · iexact h14
  iintro h14
  iapply (load_full m c wM z2 _ fullShare.right (wv m c)) $$ [h15]
  · iexact h15
  iintro h15
  ihave Ho := (any_open m c (oRow c)) $$ h16
  icases Ho with ⟨%VoRowc, h17⟩
  iapply (load_win m c oM _ (fun _ => rfl) fullShare (VoRowc)) $$ [h17]
  · iexact h17
  iintro h17
  iapply (store_win m c oM _ (fun _ => rfl) (VoRowc) (prOwn m c)) $$ [h17]
  · iexact h17
  iintro h17
  iapply (load_win m c oM _ (fun _ => rfl) fullShare (prOwn m c)) $$ [h17]
  · iexact h17
  iintro h17
  iapply (ret_step c)
  iapply Hk
  isplitl [HO]; · iexact HO
  isplitl [h8]; · iexact h8
  isplitl [h13]; · iexact h13
  isplitl [h14]; · iexact h14
  isplitl [h15]; · iexact h15
  iexact h17

/-- The neighbours' half blocks arrive; the first goes on to the right. -/
theorem part3 {Kt : (F .f32) → sProp 𝕄} (v13 v24 : BitVec 32) (v61 : FVec F S1x1024x512 .f32) :
    iprop(Ctx m K ∗ Ow c (dues.drop 4) ∗ Cr c 5 false NW ∗ At c 5 0 ∗ Cr c 9 false NW ∗ At c 9 0 ∗ any (rt c) a1 ∗ Tok c 4 0 false ∗ Tok (rt c) 6 0 false)
      ⊢ iprop((Ow c (dues.drop 5) ∗ At c 5 1 ∗ Rch c 5 1 ∗ any (op c) (oLo c) ∗ any (op c) (oHi c) ∗ any (op c) g1 ∗ At c 9 1 ∗ Rch c 9 1 ∗ mv m c b0 fullShare (wH m (rt c)) ∗ mv m c a0 fullShare.right (wL m (lf c)) ∗ Cr c 4 false NW -∗ Kt (k0_pay4 v61))
          -∗ WP c (k0_part3 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v13 v24 v61) Kt) := by
  rw [k0_part3_eq_skeleton]
  unfold k0_part3_skel
  simp only [semSignalWord, semWaitWord, word1, word2, Prog.lift, Prog.bind_op, Prog.bind_ret, Prog.pure_eq_ret]
  iintro ⟨#HC, HO, h1, h2, h9, h10, h16, h17, h18⟩ Hk
  iapply (wait_dma m K c 5 0 false (dues.drop 4) rfl (crW _ rfl) (by decide) (by decide) (iprop(mv m c a0 fullShare (wL m (lf c)) ∗ any (op c) (oLo c) ∗ any (op c) (oHi c) ∗ any (op c) g1)) rfl) $$ [h1 HO h2]
  · isplitr; · iexact HC
    isplitl [h1]; · iexact h1
    isplitl [HO]; · iexact HO
    iexact h2
  iintro ⟨HO, h3, h4, h5, h6, h7, h8⟩
  iapply (wait_dma m K c 9 0 false (dues.drop 4) rfl (crW _ rfl) (by decide) (by decide) (iprop(mv m c b0 fullShare (wH m (rt c)))) rfl) $$ [h9 HO h10]
  · isplitr; · iexact HC
    isplitl [h9]; · iexact h9
    isplitl [HO]; · iexact HO
    iexact h10
  iintro ⟨HO, h11, h12, h13⟩
  ihave Hh := (mv_halve m c a0 fullShare (wL m (lf c))).1 $$ h5
  icases Hh with ⟨h14, h15⟩
  have hs1 : mv m (rt c) a1 fullShare (wL m (lf c)) ⊢ pay m (fwd 1 c) 6 0 false := Entails.of_eq (by show _ = mv m (rt c) a1 fullShare (wL m (op (rt c))); simp only [rt_lf, lf_rt, op_op, lf_lf, rt_rt, rt_op, lf_op, op_rt, op_lf])
  iapply (send_step m K c _ 1 (dev5 c) 4 6 false (dues.drop 5) (src := a0) (dst := a1) rfl rfl fullShare.left (wL m (lf c)) (amW _ _ rfl) rfl (by decide) (by decide) .rfl hs1) $$ [h14 h16 HO h17 h18]
  · isplitr; · iexact HC
    isplitl [h14]; · iexact h14
    isplitl [h16]; · iexact h16
    isplitl [HO]; · iexact HO
    isplitl [h17]; · iexact h17
    iexact h18
  iintro ⟨h19, HO⟩
  iapply (ret_step c)
  iapply Hk
  isplitl [HO]; · iexact HO
  isplitl [h3]; · iexact h3
  isplitl [h4]; · iexact h4
  isplitl [h6]; · iexact h6
  isplitl [h7]; · iexact h7
  isplitl [h8]; · iexact h8
  isplitl [h11]; · iexact h11
  isplitl [h12]; · iexact h12
  isplitl [h13]; · iexact h13
  isplitl [h15]; · iexact h15
  iexact h19

end Cert.RingGemm

end
-- ==== Proof.Rings.lean ====
/-
# The half blocks go around

The slots are freed and lent back, and the half blocks make their further steps.
-/
module

public import proofs.«01_k».proof.Proof.Steps

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)
/-- The second goes on to the left; the product for the left neighbour's left half. -/
theorem part4 {Kt : (F .f32) → sProp 𝕄} (v2 v13 : BitVec 32) :
    iprop(Ctx m K ∗ Ow c (dues.drop 5) ∗ mv m c b0 fullShare (wH m (rt c)) ∗ any (lf c) b1 ∗ Tok c 8 0 false ∗ Tok (lf c) 10 0 false ∗ mv m c xM fullShare (xv m c) ∗ mv m c a0 fullShare.right (wL m (lf c)) ∗ any c p0)
      ⊢ iprop((Ow c (dues.drop 6) ∗ mv m c b0 fullShare.right (wH m (rt c)) ∗ Cr c 8 false NW ∗ mv m c xM fullShare (xv m c) ∗ mv m c a0 fullShare.right (wL m (lf c)) ∗ mv m c p0 fullShare (sent (prLL m c)) -∗ Kt (k0_pay6 (prLL m c)))
          -∗ WP c (k0_part4 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v13) Kt) := by
  rw [k0_part4_eq_skeleton]
  unfold k0_part4_skel
  simp only [semSignalWord, semWaitWord, word1, word2, Prog.lift, Prog.bind_op, Prog.bind_ret, Prog.pure_eq_ret]
  iintro ⟨#HC, HO, h1, h4, h5, h6, h8, h9, h10⟩ Hk
  ihave Hh := (mv_halve m c b0 fullShare (wH m (rt c))).1 $$ h1
  icases Hh with ⟨h2, h3⟩
  have hs1 : mv m (lf c) b1 fullShare (wH m (rt c)) ⊢ pay m (fwd 3 c) 10 0 false := Entails.of_eq (by show _ = mv m (lf c) b1 fullShare (wH m (op (lf c))); simp only [rt_lf, lf_rt, op_op, lf_lf, rt_rt, rt_op, lf_op, op_rt, op_lf])
  iapply (send_step m K c _ 3 (dev6 c) 8 10 false (dues.drop 6) (src := b0) (dst := b1) rfl rfl fullShare.left (wH m (rt c)) (amW _ _ rfl) rfl (by decide) (by decide) .rfl hs1) $$ [h2 h4 HO h5 h6]
  · isplitr; · iexact HC
    isplitl [h2]; · iexact h2
    isplitl [h4]; · iexact h4
    isplitl [HO]; · iexact HO
    isplitl [h5]; · iexact h5
    iexact h6
  iintro ⟨h7, HO⟩
  iapply (load_full m c xM z2 _ fullShare (xv m c)) $$ [h8]
  · iexact h8
  iintro h8
  iapply (load_slot m c aM _ (fun _ => rfl) squeezes_S1x4096x256_S4096x256 fullShare.right (wL m (lf c))) $$ [h9]
  · iexact h9
  iintro h9
  ihave Ho := (any_open m c p0) $$ h10
  icases Ho with ⟨%Vp0, h11⟩
  iapply (load_slot m c pM _ (fun _ => rfl) squeezes_S1x1024x256_S1024x256 fullShare (Vp0)) $$ [h11]
  · iexact h11
  iintro h11
  iapply (store_slot m c pM _ (fun _ => rfl) squeezes_S1x1024x256_S1024x256 (Vp0) (prLL m c)) $$ [h11]
  · iexact h11
  iintro h11
  iapply (load_slot m c pM _ (fun _ => rfl) squeezes_S1x1024x256_S1024x256 fullShare (sent (prLL m c))) $$ [h11]
  · iexact h11
  iintro h11
  simp only [up_down]
  iapply (ret_step c)
  iapply Hk
  isplitl [HO]; · iexact HO
  isplitl [h3]; · iexact h3
  isplitl [h7]; · iexact h7
  isplitl [h8]; · iexact h8
  isplitl [h9]; · iexact h9
  iexact h11

/-- The product goes home; the product for the right neighbour's right half follows. -/
theorem part5 {Kt : (F .f32) → sProp 𝕄} (v2 v24 : BitVec 32) :
    iprop(Ctx m K ∗ Ow c (dues.drop 6) ∗ mv m c p0 fullShare (sent (prLL m c)) ∗ any (lf c) (oLo c) ∗ Tok c 11 0 false ∗ Tok (lf c) 17 0 false ∗ mv m c xM fullShare (xv m c) ∗ mv m c b0 fullShare.right (wH m (rt c)) ∗ any c p1 ∗ any (rt c) (oHi c) ∗ Tok c 12 0 false ∗ Tok (rt c) 22 0 false)
      ⊢ iprop((Ow c (dues.drop 8) ∗ Cr c 11 false NR ∗ mv m c xM fullShare (xv m c) ∗ mv m c b0 fullShare.right (wH m (rt c)) ∗ Cr c 12 false NR -∗ Kt (k0_pay8 (prRH m c)))
          -∗ WP c (k0_part5 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v24) Kt) := by
  rw [k0_part5_eq_skeleton]
  unfold k0_part5_skel
  simp only [semSignalWord, semWaitWord, word1, word2, Prog.lift, Prog.bind_op, Prog.bind_ret, Prog.pure_eq_ret]
  iintro ⟨#HC, HO, h1, h2, h3, h4, h6, h7, h8, h10, h11, h12⟩ Hk
  have hs1 : mv m (lf c) (oLo c) fullShare (sent (prLL m c)) ⊢ pay m (fwd 3 c) 17 0 false := Entails.of_eq (by show _ = mv m (lf c) (oLo (rt (lf c))) fullShare (sent (prLL m (rt (lf c)))); simp only [rt_lf, lf_rt, op_op, lf_lf, rt_rt, rt_op, lf_op, op_rt, op_lf])
  iapply (send_step m K c _ 3 (dev7 c) 11 17 false (dues.drop 7) (src := p0) (dst := (oLo c)) rfl rfl fullShare (sent (prLL m c)) (amR _ _ rfl) rfl (by decide) (by decide) (by show _ ⊢ any c p0; exact mv_any m c p0 _) hs1) $$ [h1 h2 HO h3 h4]
  · isplitr; · iexact HC
    isplitl [h1]; · iexact h1
    isplitl [h2]; · iexact h2
    isplitl [HO]; · iexact HO
    isplitl [h3]; · iexact h3
    iexact h4
  iintro ⟨h5, HO⟩
  iapply (load_full m c xM z2 _ fullShare (xv m c)) $$ [h6]
  · iexact h6
  iintro h6
  iapply (load_slot m c bM _ (fun _ => rfl) squeezes_S1x4096x256_S4096x256 fullShare.right (wH m (rt c))) $$ [h7]
  · iexact h7
  iintro h7
  ihave Ho := (any_open m c p1) $$ h8
  icases Ho with ⟨%Vp1, h9⟩
  iapply (load_slot m c pM _ (fun _ => rfl) squeezes_S1x1024x256_S1024x256 fullShare (Vp1)) $$ [h9]
  · iexact h9
  iintro h9
  iapply (store_slot m c pM _ (fun _ => rfl) squeezes_S1x1024x256_S1024x256 (Vp1) (prRH m c)) $$ [h9]
  · iexact h9
  iintro h9
  iapply (load_slot m c pM _ (fun _ => rfl) squeezes_S1x1024x256_S1024x256 fullShare (sent (prRH m c))) $$ [h9]
  · iexact h9
  iintro h9
  have hs2 : mv m (rt c) (oHi c) fullShare (sent (prRH m c)) ⊢ pay m (fwd 1 c) 22 0 false := Entails.of_eq (by show _ = mv m (rt c) (oHi (lf (rt c))) fullShare (sent (prRH m (lf (rt c)))); simp only [rt_lf, lf_rt, op_op, lf_lf, rt_rt, rt_op, lf_op, op_rt, op_lf])
  iapply (send_step m K c _ 1 (dev8 c) 12 22 false (dues.drop 8) (src := p1) (dst := (oHi c)) rfl rfl fullShare (sent (prRH m c)) (amR _ _ rfl) rfl (by decide) (by decide) (by show _ ⊢ any c p1; exact mv_any m c p1 _) hs2) $$ [h9 h10 HO h11 h12]
  · isplitr; · iexact HC
    isplitl [h9]; · iexact h9
    isplitl [h10]; · iexact h10
    isplitl [HO]; · iexact HO
    isplitl [h11]; · iexact h11
    iexact h12
  iintro ⟨h13, HO⟩
  simp only [up_down]
  iapply (ret_step c)
  iapply Hk
  isplitl [HO]; · iexact HO
  isplitl [h5]; · iexact h5
  isplitl [h6]; · iexact h6
  isplitl [h7]; · iexact h7
  iexact h13

/-- The first slot of the first ring is free again, and the left neighbour is told. -/
theorem part6 {Kt : (PUnit) → sProp 𝕄} (v13 : BitVec 32) :
    iprop(Ctx m K ∗ Ow c (dues.drop 8) ∗ Cr c 3 false NW ∗ At c 3 0 ∗ Cr c 4 false NW ∗ At c 4 0 ∗ mv m c a0 fullShare.right (wL m (lf c)) ∗ Tok (lf c) 0 0 false ∗ Rch c 5 1 ∗ Cr c 7 false NW ∗ At c 7 0)
      ⊢ iprop((Ow c (dues.drop 9) ∗ At c 3 1 ∗ Rch c 3 1 ∗ mv m c wLo fullShare.left (wL m c) ∗ At c 4 1 ∗ Rch c 4 1 ∗ At c 7 1 ∗ Rch c 7 1 ∗ mv m c wHi fullShare.left (wH m c) -∗ Kt ⟨⟩)
          -∗ WP c (k0_part6 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v13) Kt) := by
  rw [k0_part6_eq_skeleton]
  unfold k0_part6_skel
  simp only [semSignalWord, semWaitWord, word1, word2, Prog.lift, Prog.bind_op, Prog.bind_ret, Prog.pure_eq_ret]
  iintro ⟨#HC, HO, h1, h2, h6, h7, h11, h14, h15, h16, h17⟩ Hk
  iapply (wait_dma m K c 3 0 false (dues.drop 8) rfl (crW _ rfl) (by decide) (by decide) (iprop(mv m c wLo fullShare.left (wL m c))) rfl) $$ [h1 HO h2]
  · isplitr; · iexact HC
    isplitl [h1]; · iexact h1
    isplitl [HO]; · iexact HO
    iexact h2
  iintro ⟨HO, h3, h4, h5⟩
  iapply (wait_dma m K c 4 0 false (dues.drop 8) rfl (crW _ rfl) (by decide) (by decide) (iprop(mv m c a0 fullShare.left (wL m (lf c)))) rfl) $$ [h6 HO h7]
  · isplitr; · iexact HC
    isplitl [h6]; · iexact h6
    isplitl [HO]; · iexact HO
    iexact h7
  iintro ⟨HO, h8, h9, h10⟩
  ihave h12 := (mv_halve m c a0 fullShare (wL m (lf c))).2 $$ [h10 h11]
  · isplitl [h10]; · iexact h10
    iexact h11
  ihave h13 := (mv_any m c a0 (wL m (lf c))) $$ h12
  have hs1 : iprop(any c a0 ∗ Rch c 5 1) ⊢ pay m (fwd 3 c) 0 0 false := Entails.of_eq (by show _ = iprop(any (rt (lf c)) a0 ∗ Rch (rt (lf c)) 5 1); simp only [rt_lf, lf_rt, op_op, lf_lf, rt_rt, rt_op, lf_op, op_rt, op_lf])
  iapply (signal_step m K c _ 3 (dev9 c) 0 false false (dues.drop 9) rfl rfl (by decide) _ hs1) $$ [HO h14 h13 h15]
  · isplitr; · iexact HC
    isplitl [HO]; · iexact HO
    isplitl [h14]; · iexact h14
    isplitl [h13]; · iexact h13
    iexact h15
  iintro HO
  iapply (wait_dma m K c 7 0 false (dues.drop 9) rfl (crW _ rfl) (by decide) (by decide) (iprop(mv m c wHi fullShare.left (wH m c))) rfl) $$ [h16 HO h17]
  · isplitr; · iexact HC
    isplitl [h16]; · iexact h16
    isplitl [HO]; · iexact HO
    iexact h17
  iintro ⟨HO, h18, h19, h20⟩
  iapply (ret_step c)
  iapply Hk
  isplitl [HO]; · iexact HO
  isplitl [h3]; · iexact h3
  isplitl [h4]; · iexact h4
  isplitl [h5]; · iexact h5
  isplitl [h8]; · iexact h8
  isplitl [h9]; · iexact h9
  isplitl [h18]; · iexact h18
  isplitl [h19]; · iexact h19
  iexact h20

/-- The same for the second ring; the opposite device's half blocks arrive. -/
theorem part7 {Kt : (Σ' (_ : BitVec 32) (_ : BitVec 32) (_ : BitVec 1), BitVec 1) → sProp 𝕄} (v2 v13 v24 : BitVec 32) :
    iprop(Ctx m K ∗ Ow c (dues.drop 9) ∗ Cr c 8 false NW ∗ At c 8 0 ∗ mv m c b0 fullShare.right (wH m (rt c)) ∗ Tok (rt c) 1 0 false ∗ Rch c 9 1 ∗ Cr c 6 false NW ∗ At c 6 0 ∗ Cr c 10 false NW ∗ At c 10 0)
      ⊢ iprop((∀ (w1 w2 : BitVec 32) (w3 w4 : BitVec 1), Ow c (dues.drop 10) ∗ At c 8 1 ∗ Rch c 8 1 ∗ At c 6 1 ∗ Rch c 6 1 ∗ mv m c a1 fullShare (wL m (op c)) ∗ At c 10 1 ∗ Rch c 10 1 ∗ mv m c b1 fullShare (wH m (op c)) -∗ Kt ⟨w1, w2, w3, w4⟩)
          -∗ WP c (k0_part7 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v13 v24) Kt) := by
  rw [k0_part7_eq_skeleton]
  unfold k0_part7_skel
  simp only [semSignalWord, semWaitWord, word1, word2, Prog.lift, Prog.bind_op, Prog.bind_ret, Prog.pure_eq_ret]
  iintro ⟨#HC, HO, h1, h2, h6, h9, h10, h11, h12, h16, h17⟩ Hk
  iapply (wait_dma m K c 8 0 false (dues.drop 9) rfl (crW _ rfl) (by decide) (by decide) (iprop(mv m c b0 fullShare.left (wH m (rt c)))) rfl) $$ [h1 HO h2]
  · isplitr; · iexact HC
    isplitl [h1]; · iexact h1
    isplitl [HO]; · iexact HO
    iexact h2
  iintro ⟨HO, h3, h4, h5⟩
  ihave h7 := (mv_halve m c b0 fullShare (wH m (rt c))).2 $$ [h5 h6]
  · isplitl [h5]; · iexact h5
    iexact h6
  ihave h8 := (mv_any m c b0 (wH m (rt c))) $$ h7
  have hs1 : iprop(any c b0 ∗ Rch c 9 1) ⊢ pay m (fwd 1 c) 1 0 false := Entails.of_eq (by show _ = iprop(any (lf (rt c)) b0 ∗ Rch (lf (rt c)) 9 1); simp only [rt_lf, lf_rt, op_op, lf_lf, rt_rt, rt_op, lf_op, op_rt, op_lf])
  iapply (signal_step m K c _ 1 (dev10 c) 1 false false (dues.drop 10) rfl rfl (by decide) _ hs1) $$ [HO h9 h8 h10]
  · isplitr; · iexact HC
    isplitl [HO]; · iexact HO
    isplitl [h9]; · iexact h9
    isplitl [h8]; · iexact h8
    iexact h10
  iintro HO
  iapply (wait_dma m K c 6 0 false (dues.drop 10) rfl (crW _ rfl) (by decide) (by decide) (iprop(mv m c a1 fullShare (wL m (op c)))) rfl) $$ [h11 HO h12]
  · isplitr; · iexact HC
    isplitl [h11]; · iexact h11
    isplitl [HO]; · iexact HO
    iexact h12
  iintro ⟨HO, h13, h14, h15⟩
  iapply (wait_dma m K c 10 0 false (dues.drop 10) rfl (crW _ rfl) (by decide) (by decide) (iprop(mv m c b1 fullShare (wH m (op c)))) rfl) $$ [h16 HO h17]
  · isplitr; · iexact HC
    isplitl [h16]; · iexact h16
    isplitl [HO]; · iexact HO
    iexact h17
  iintro ⟨HO, h18, h19, h20⟩
  iapply (ret_step c)
  iapply Hk
  isplitl [HO]; · iexact HO
  isplitl [h3]; · iexact h3
  isplitl [h4]; · iexact h4
  isplitl [h13]; · iexact h13
  isplitl [h14]; · iexact h14
  isplitl [h15]; · iexact h15
  isplitl [h18]; · iexact h18
  isplitl [h19]; · iexact h19
  iexact h20

/-- With the neighbours' leave the half blocks make their last step. -/
theorem part8 {Kt : (Σ' (_ : BitVec 32), FVec F S1024x4096 .f32) → sProp 𝕄} (v13 v24 w1 w2 : BitVec 32) (w3 w4 : BitVec 1) :
    iprop(Ctx m K ∗ Ow c (dues.drop 10) ∗ Cr c 0 false 1 ∗ At c 0 0 ∗ mv m c a1 fullShare (wL m (op c)) ∗ Tok c 3 1 false ∗ Tok (rt c) 5 1 false ∗ Rch c 3 1 ∗ Cr c 1 false 1 ∗ At c 1 0 ∗ mv m c b1 fullShare (wH m (op c)) ∗ Tok c 7 1 false ∗ Tok (lf c) 9 1 false ∗ Rch c 7 1 ∗ mv m c xM fullShare (xv m c))
      ⊢ iprop((∀ (w : BitVec 32), Ow c (dues.drop 12) ∗ At c 0 1 ∗ Rch c 0 1 ∗ mv m c a1 fullShare.right (wL m (op c)) ∗ Cr c 3 false NW ∗ At c 1 1 ∗ Rch c 1 1 ∗ mv m c b1 fullShare.right (wH m (op c)) ∗ Cr c 7 false NW ∗ mv m c xM fullShare (xv m c) -∗ Kt ⟨w, k0_pay9 (xv m c)⟩)
          -∗ WP c (k0_part8 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v13 v24 w1 w2 w3 w4) Kt) := by
  rw [k0_part8_eq_skeleton]
  unfold k0_part8_skel
  simp only [semSignalWord, semWaitWord, word1, word2, Prog.lift, Prog.bind_op, Prog.bind_ret, Prog.pure_eq_ret]
  iintro ⟨#HC, HO, h1, h2, h7, h10, h11, h12, h14, h15, h20, h23, h24, h25, h27⟩ Hk
  iapply (wait_reg m K c 0 0 false (dues.drop 10) rfl rfl (by decide)) $$ [h1 HO h2]
  · isplitr; · iexact HC
    isplitl [h1]; · iexact h1
    isplitl [HO]; · iexact HO
    iexact h2
  iintro ⟨HO, h3, h4, HP⟩
  ihave HPP := (show bigSep (dut (0 : Fin 29).val 0) (fun d => pay m c (0 : Fin 29).val 0 d) ⊢ iprop(any (rt c) a0 ∗ Rch (rt c) 5 1) from credit_pay m c 0 rfl) $$ HP
  icases HPP with ⟨h5, h6⟩
  ihave Hh := (mv_halve m c a1 fullShare (wL m (op c))).1 $$ h7
  icases Hh with ⟨h8, h9⟩
  have hs1 : iprop(mv m (rt c) a0 fullShare (wL m (op c)) ∗ emp) ⊢ pay m (fwd 1 c) 5 1 false := by
    rw [show pay m (fwd 1 c) 5 1 false = mv m (rt c) a0 fullShare (wL m (op c)) from (by show mv m (rt c) a0 fullShare (wL m (rt (rt c))) = _; simp only [rt_lf, lf_rt, op_op, lf_lf, rt_rt, rt_op, lf_op, op_rt, op_lf])]
    iintro ⟨H, -⟩; iexact H
  iapply (send_gen m K c _ 1 (dev11 c) 3 5 1 1 true (dues.drop 11) (src := a1) (dst := a0) rfl rfl fullShare.left (wL m (op c)) (iprop(emp)) (amW _ _ rfl) rfl (by decide) (by decide) .rfl hs1) $$ [h8 h5 HO h10 h12 h11 h6]
  · isplitr; · iexact HC
    isplitl [h8]; · iexact h8
    isplitl [h5]; · iexact h5
    isplitr; · iempintro
    isplitl [HO]; · iexact HO
    isplitl [h10]; · iexact h10
    isplitl [h12]; · iexact h12
    isplitl [h11]; · iexact h11
    iexact h6
  iintro ⟨h13, HO⟩
  iapply (wait_reg m K c 1 0 false (dues.drop 11) rfl rfl (by decide)) $$ [h14 HO h15]
  · isplitr; · iexact HC
    isplitl [h14]; · iexact h14
    isplitl [HO]; · iexact HO
    iexact h15
  iintro ⟨HO, h16, h17, HP⟩
  ihave HPP := (show bigSep (dut (1 : Fin 29).val 0) (fun d => pay m c (1 : Fin 29).val 0 d) ⊢ iprop(any (lf c) b0 ∗ Rch (lf c) 9 1) from credit_pay m c 1 rfl) $$ HP
  icases HPP with ⟨h18, h19⟩
  ihave Hh := (mv_halve m c b1 fullShare (wH m (op c))).1 $$ h20
  icases Hh with ⟨h21, h22⟩
  have hs2 : iprop(mv m (lf c) b0 fullShare (wH m (op c)) ∗ emp) ⊢ pay m (fwd 3 c) 9 1 false := by
    rw [show pay m (fwd 3 c) 9 1 false = mv m (lf c) b0 fullShare (wH m (op c)) from (by show mv m (lf c) b0 fullShare (wH m (lf (lf c))) = _; simp only [rt_lf, lf_rt, op_op, lf_lf, rt_rt, rt_op, lf_op, op_rt, op_lf])]
    iintro ⟨H, -⟩; iexact H
  iapply (send_gen m K c _ 3 (dev12 c) 7 9 1 1 true (dues.drop 12) (src := b1) (dst := b0) rfl rfl fullShare.left (wH m (op c)) (iprop(emp)) (amW _ _ rfl) rfl (by decide) (by decide) .rfl hs2) $$ [h21 h18 HO h23 h25 h24 h19]
  · isplitr; · iexact HC
    isplitl [h21]; · iexact h21
    isplitl [h18]; · iexact h18
    isplitr; · iempintro
    isplitl [HO]; · iexact HO
    isplitl [h23]; · iexact h23
    isplitl [h25]; · iexact h25
    isplitl [h24]; · iexact h24
    iexact h19
  iintro ⟨h26, HO⟩
  iapply (load_full m c xM z2 _ fullShare (xv m c)) $$ [h27]
  · iexact h27
  iintro h27
  iapply (ret_step c)
  iapply Hk
  isplitl [HO]; · iexact HO
  isplitl [h3]; · iexact h3
  isplitl [h4]; · iexact h4
  isplitl [h9]; · iexact h9
  isplitl [h13]; · iexact h13
  isplitl [h16]; · iexact h16
  isplitl [h17]; · iexact h17
  isplitl [h22]; · iexact h22
  isplitl [h26]; · iexact h26
  iexact h27

end Cert.RingGemm

end
-- ==== Proof.Products.lean ====
/-
# The later products

The products with the half blocks that have come from further away.
-/
module

public import proofs.«01_k».proof.Proof.Steps

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)
/-- The products for the opposite device. -/
theorem part9 {Kt : (Σ' (_ : F .f32), FVec F S1x1024x256 .f32) → sProp 𝕄} (v2 w : BitVec 32) :
    iprop(Ctx m K ∗ Ow c (dues.drop 12) ∗ mv m c a1 fullShare.right (wL m (op c)) ∗ any c p2 ∗ any (op c) (oLo c) ∗ Tok c 13 0 false ∗ Tok (op c) 19 0 false ∗ mv m c xM fullShare (xv m c) ∗ mv m c b1 fullShare.right (wH m (op c)) ∗ any c p3)
      ⊢ iprop((Ow c (dues.drop 13) ∗ mv m c a1 fullShare.right (wL m (op c)) ∗ Cr c 13 false NR ∗ mv m c xM fullShare (xv m c) ∗ mv m c b1 fullShare.right (wH m (op c)) ∗ any c p3 -∗ Kt ⟨k0_pay11 (prOL m c), prOH m c⟩)
          -∗ WP c (k0_part9 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 w (k0_pay9 (xv m c))) Kt) := by
  rw [k0_part9_eq_skeleton]
  unfold k0_part9_skel
  simp only [semSignalWord, semWaitWord, word1, word2, Prog.lift, Prog.bind_op, Prog.bind_ret, Prog.pure_eq_ret]
  iintro ⟨#HC, HO, h1, h2, h4, h5, h6, h8, h9, h10⟩ Hk
  iapply (load_slot m c aM _ (fun _ => rfl) squeezes_S1x4096x256_S4096x256 fullShare.right (wL m (op c))) $$ [h1]
  · iexact h1
  iintro h1
  ihave Ho := (any_open m c p2) $$ h2
  icases Ho with ⟨%Vp2, h3⟩
  iapply (load_slot m c pM _ (fun _ => rfl) squeezes_S1x1024x256_S1024x256 fullShare (Vp2)) $$ [h3]
  · iexact h3
  iintro h3
  iapply (store_slot m c pM _ (fun _ => rfl) squeezes_S1x1024x256_S1024x256 (Vp2) (prOL m c)) $$ [h3]
  · iexact h3
  iintro h3
  iapply (load_slot m c pM _ (fun _ => rfl) squeezes_S1x1024x256_S1024x256 fullShare (sent (prOL m c))) $$ [h3]
  · iexact h3
  iintro h3
  have hs1 : mv m (op c) (oLo c) fullShare (sent (prOL m c)) ⊢ pay m (fwd 2 c) 19 0 false := Entails.of_eq (by show _ = mv m (op c) (oLo (op (op c))) fullShare (sent (prOL m (op (op c)))); simp only [rt_lf, lf_rt, op_op, lf_lf, rt_rt, rt_op, lf_op, op_rt, op_lf])
  iapply (send_step m K c _ 2 (dev13 c) 13 19 false (dues.drop 13) (src := p2) (dst := (oLo c)) rfl rfl fullShare (sent (prOL m c)) (amR _ _ rfl) rfl (by decide) (by decide) (by show _ ⊢ any c p2; exact mv_any m c p2 _) hs1) $$ [h3 h4 HO h5 h6]
  · isplitr; · iexact HC
    isplitl [h3]; · iexact h3
    isplitl [h4]; · iexact h4
    isplitl [HO]; · iexact HO
    isplitl [h5]; · iexact h5
    iexact h6
  iintro ⟨h7, HO⟩
  iapply (load_full m c xM z2 _ fullShare (xv m c)) $$ [h8]
  · iexact h8
  iintro h8
  iapply (load_slot m c bM _ (fun _ => rfl) squeezes_S1x4096x256_S4096x256 fullShare.right (wH m (op c))) $$ [h9]
  · iexact h9
  iintro h9
  ihave Ho := (any_open m c p3) $$ h10
  icases Ho with ⟨%Vp3, h11⟩
  iapply (load_slot m c pM _ (fun _ => rfl) squeezes_S1x1024x256_S1024x256 fullShare (Vp3)) $$ [h11]
  · iexact h11
  iintro h11
  simp only [up_down]
  ihave h12 := (mv_any m c p3 (Vp3)) $$ h11
  rw [show k0_pay12 (xv m c) (up squeezes_S1x4096x256_S4096x256 (wH m (op c))) = prOH m c from rfl]
  iapply (ret_step c)
  iapply Hk
  isplitl [HO]; · iexact HO
  isplitl [h1]; · iexact h1
  isplitl [h7]; · iexact h7
  isplitl [h8]; · iexact h8
  isplitl [h9]; · iexact h9
  iexact h12

/-- They go home, and the last half block of the first ring arrives. -/
theorem part10 {Kt : (F .f32) → sProp 𝕄} (v2 v13 v24 w : BitVec 32) :
    iprop(Ctx m K ∗ Ow c (dues.drop 13) ∗ any c p3 ∗ any (op c) (oHi c) ∗ Tok c 14 0 false ∗ Tok (op c) 20 0 false ∗ Cr c 5 true NW ∗ At c 5 1)
      ⊢ iprop((Ow c (dues.drop 14) ∗ Cr c 14 false NR ∗ At c 5 2 ∗ Rch c 5 2 ∗ mv m c a0 fullShare (wL m (rt c)) -∗ Kt (k0_pay13 (prOH m c)))
          -∗ WP c (k0_part10 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v13 v24 w (prOH m c)) Kt) := by
  rw [k0_part10_eq_skeleton]
  unfold k0_part10_skel
  simp only [semSignalWord, semWaitWord, word1, word2, Prog.lift, Prog.bind_op, Prog.bind_ret, Prog.pure_eq_ret]
  iintro ⟨#HC, HO, h1, h3, h4, h5, h7, h8⟩ Hk
  ihave Ho := (any_open m c p3) $$ h1
  icases Ho with ⟨%Vp3, h2⟩
  iapply (store_slot m c pM _ (fun _ => rfl) squeezes_S1x1024x256_S1024x256 (Vp3) (prOH m c)) $$ [h2]
  · iexact h2
  iintro h2
  iapply (load_slot m c pM _ (fun _ => rfl) squeezes_S1x1024x256_S1024x256 fullShare (sent (prOH m c))) $$ [h2]
  · iexact h2
  iintro h2
  have hs1 : mv m (op c) (oHi c) fullShare (sent (prOH m c)) ⊢ pay m (fwd 2 c) 20 0 false := Entails.of_eq (by show _ = mv m (op c) (oHi (op (op c))) fullShare (sent (prOH m (op (op c)))); simp only [rt_lf, lf_rt, op_op, lf_lf, rt_rt, rt_op, lf_op, op_rt, op_lf])
  iapply (send_step m K c _ 2 (dev14 c) 14 20 false (dues.drop 14) (src := p3) (dst := (oHi c)) rfl rfl fullShare (sent (prOH m c)) (amR _ _ rfl) rfl (by decide) (by decide) (by show _ ⊢ any c p3; exact mv_any m c p3 _) hs1) $$ [h2 h3 HO h4 h5]
  · isplitr; · iexact HC
    isplitl [h2]; · iexact h2
    isplitl [h3]; · iexact h3
    isplitl [HO]; · iexact HO
    isplitl [h4]; · iexact h4
    iexact h5
  iintro ⟨h6, HO⟩
  iapply (wait_dma m K c 5 1 true (dues.drop 14) rfl (crW _ rfl) (by decide) (by decide) (iprop(mv m c a0 fullShare (wL m (rt c)))) rfl) $$ [h7 HO h8]
  · isplitr; · iexact HC
    isplitl [h7]; · iexact h7
    isplitl [HO]; · iexact HO
    iexact h8
  iintro ⟨HO, h9, h10, h11⟩
  simp only [up_down]
  iapply (ret_step c)
  iapply Hk
  isplitl [HO]; · iexact HO
  isplitl [h6]; · iexact h6
  isplitl [h9]; · iexact h9
  isplitl [h10]; · iexact h10
  iexact h11

/-- The last half block of the second ring arrives; the product for the right neighbour's left half. -/
theorem part11 {Kt : (Σ' (_ : F .f32) (_ : BitVec 32), BitVec 32) → sProp 𝕄} (v2 v24 : BitVec 32) :
    iprop(Ctx m K ∗ Ow c (dues.drop 14) ∗ Cr c 9 true NW ∗ At c 9 1 ∗ Cr c 11 false NR ∗ At c 11 0 ∗ mv m c xM fullShare (xv m c) ∗ mv m c a0 fullShare (wL m (rt c)))
      ⊢ iprop((∀ (w w' : BitVec 32), Ow c (dues.drop 14) ∗ At c 9 2 ∗ Rch c 9 2 ∗ mv m c b0 fullShare (wH m (lf c)) ∗ At c 11 1 ∗ Rch c 11 1 ∗ mv m c xM fullShare (xv m c) ∗ mv m c a0 fullShare (wL m (rt c)) ∗ mv m c p0 fullShare (sent (prRL m c)) -∗ Kt ⟨k0_pay15 (prRL m c), w, w'⟩)
          -∗ WP c (k0_part11 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v24) Kt) := by
  rw [k0_part11_eq_skeleton]
  unfold k0_part11_skel
  simp only [semSignalWord, semWaitWord, word1, word2, Prog.lift, Prog.bind_op, Prog.bind_ret, Prog.pure_eq_ret]
  iintro ⟨#HC, HO, h1, h2, h6, h7, h11, h12⟩ Hk
  iapply (wait_dma m K c 9 1 true (dues.drop 14) rfl (crW _ rfl) (by decide) (by decide) (iprop(mv m c b0 fullShare (wH m (lf c)))) rfl) $$ [h1 HO h2]
  · isplitr; · iexact HC
    isplitl [h1]; · iexact h1
    isplitl [HO]; · iexact HO
    iexact h2
  iintro ⟨HO, h3, h4, h5⟩
  iapply (wait_dma m K c 11 0 false (dues.drop 14) rfl (crR _ rfl) (by decide) (by decide) (iprop(any c p0)) rfl) $$ [h6 HO h7]
  · isplitr; · iexact HC
    isplitl [h6]; · iexact h6
    isplitl [HO]; · iexact HO
    iexact h7
  iintro ⟨HO, h8, h9, h10⟩
  iapply (load_full m c xM z2 _ fullShare (xv m c)) $$ [h11]
  · iexact h11
  iintro h11
  iapply (load_slot m c aM _ (fun _ => rfl) squeezes_S1x4096x256_S4096x256 fullShare (wL m (rt c))) $$ [h12]
  · iexact h12
  iintro h12
  ihave Ho := (any_open m c p0) $$ h10
  icases Ho with ⟨%Vp0, h13⟩
  iapply (load_slot m c pM _ (fun _ => rfl) squeezes_S1x1024x256_S1024x256 fullShare (Vp0)) $$ [h13]
  · iexact h13
  iintro h13
  iapply (store_slot m c pM _ (fun _ => rfl) squeezes_S1x1024x256_S1024x256 (Vp0) (prRL m c)) $$ [h13]
  · iexact h13
  iintro h13
  iapply (load_slot m c pM _ (fun _ => rfl) squeezes_S1x1024x256_S1024x256 fullShare (sent (prRL m c))) $$ [h13]
  · iexact h13
  iintro h13
  simp only [up_down]
  iapply (ret_step c)
  iapply Hk
  isplitl [HO]; · iexact HO
  isplitl [h3]; · iexact h3
  isplitl [h4]; · iexact h4
  isplitl [h5]; · iexact h5
  isplitl [h8]; · iexact h8
  isplitl [h9]; · iexact h9
  isplitl [h11]; · iexact h11
  isplitl [h12]; · iexact h12
  iexact h13

/-- It goes home; the product for the left neighbour's right half. -/
theorem part12 {Kt : (Σ' (_ : F .f32), BitVec 32) → sProp 𝕄} (v2 w w' : BitVec 32) :
    iprop(Ctx m K ∗ Ow c (dues.drop 14) ∗ mv m c p0 fullShare (sent (prRL m c)) ∗ any (rt c) (oLo c) ∗ Tok c 15 0 false ∗ Tok (rt c) 21 0 false ∗ Cr c 12 false NR ∗ At c 12 0 ∗ mv m c xM fullShare (xv m c) ∗ mv m c b0 fullShare (wH m (lf c)))
      ⊢ iprop((∀ (u : BitVec 32), Ow c (dues.drop 15) ∗ Cr c 15 false NR ∗ At c 12 1 ∗ Rch c 12 1 ∗ mv m c xM fullShare (xv m c) ∗ mv m c b0 fullShare (wH m (lf c)) ∗ mv m c p1 fullShare (sent (prLH m c)) -∗ Kt ⟨k0_pay17 (prLH m c), u⟩)
          -∗ WP c (k0_part12 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 w w') Kt) := by
  rw [k0_part12_eq_skeleton]
  unfold k0_part12_skel
  simp only [semSignalWord, semWaitWord, word1, word2, Prog.lift, Prog.bind_op, Prog.bind_ret, Prog.pure_eq_ret]
  iintro ⟨#HC, HO, h1, h2, h3, h4, h6, h7, h11, h12⟩ Hk
  have hs1 : mv m (rt c) (oLo c) fullShare (sent (prRL m c)) ⊢ pay m (fwd 1 c) 21 0 false := Entails.of_eq (by show _ = mv m (rt c) (oLo (lf (rt c))) fullShare (sent (prRL m (lf (rt c)))); simp only [rt_lf, lf_rt, op_op, lf_lf, rt_rt, rt_op, lf_op, op_rt, op_lf])
  iapply (send_step m K c _ 1 (dev15 c) 15 21 false (dues.drop 15) (src := p0) (dst := (oLo c)) rfl rfl fullShare (sent (prRL m c)) (amR _ _ rfl) rfl (by decide) (by decide) (by show _ ⊢ any c p0; exact mv_any m c p0 _) hs1) $$ [h1 h2 HO h3 h4]
  · isplitr; · iexact HC
    isplitl [h1]; · iexact h1
    isplitl [h2]; · iexact h2
    isplitl [HO]; · iexact HO
    isplitl [h3]; · iexact h3
    iexact h4
  iintro ⟨h5, HO⟩
  iapply (wait_dma m K c 12 0 false (dues.drop 15) rfl (crR _ rfl) (by decide) (by decide) (iprop(any c p1)) rfl) $$ [h6 HO h7]
  · isplitr; · iexact HC
    isplitl [h6]; · iexact h6
    isplitl [HO]; · iexact HO
    iexact h7
  iintro ⟨HO, h8, h9, h10⟩
  iapply (load_full m c xM z2 _ fullShare (xv m c)) $$ [h11]
  · iexact h11
  iintro h11
  iapply (load_slot m c bM _ (fun _ => rfl) squeezes_S1x4096x256_S4096x256 fullShare (wH m (lf c))) $$ [h12]
  · iexact h12
  iintro h12
  ihave Ho := (any_open m c p1) $$ h10
  icases Ho with ⟨%Vp1, h13⟩
  iapply (load_slot m c pM _ (fun _ => rfl) squeezes_S1x1024x256_S1024x256 fullShare (Vp1)) $$ [h13]
  · iexact h13
  iintro h13
  iapply (store_slot m c pM _ (fun _ => rfl) squeezes_S1x1024x256_S1024x256 (Vp1) (prLH m c)) $$ [h13]
  · iexact h13
  iintro h13
  iapply (load_slot m c pM _ (fun _ => rfl) squeezes_S1x1024x256_S1024x256 fullShare (sent (prLH m c))) $$ [h13]
  · iexact h13
  iintro h13
  simp only [up_down]
  iapply (ret_step c)
  iapply Hk
  isplitl [HO]; · iexact HO
  isplitl [h5]; · iexact h5
  isplitl [h8]; · iexact h8
  isplitl [h9]; · iexact h9
  isplitl [h11]; · iexact h11
  isplitl [h12]; · iexact h12
  iexact h13

end Cert.RingGemm

end
-- ==== Proof.Gather.lean ====
/-
# The largest magnitudes are sent

Each device writes down its largest magnitude and sends it to the others.
-/
module

public import proofs.«01_k».proof.Proof.Steps

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)
/-- The last product goes home, and the device writes down its largest magnitude. -/
theorem part13 {Kt : (Σ' (_ : F .f32), BitVec 32) → sProp 𝕄} (v2 v13 w : BitVec 32) :
    iprop(Ctx m K ∗ Ow c (dues.drop 15) ∗ mv m c p1 fullShare (sent (prLH m c)) ∗ any (lf c) (oHi c) ∗ Tok c 16 0 false ∗ Tok (lf c) 18 0 false ∗ any c tM)
      ⊢ iprop((∀ (u : BitVec 32), Ow c (dues.drop 16) ∗ Cr c 16 false NR ∗ mv m c tM fullShare (amaxB m c) -∗ Kt ⟨amax m c, u⟩)
          -∗ WP c (k0_part13 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 v13 (k0_pay4 (k0_pay3 (prOwn m c))) (k0_pay6 (prLL m c)) (k0_pay8 (prRH m c)) (k0_pay11 (prOL m c)) (k0_pay13 (prOH m c)) (k0_pay15 (prRL m c)) (k0_pay17 (prLH m c)) w) Kt) := by
  rw [k0_part13_eq_skeleton]
  unfold k0_part13_skel
  simp only [semSignalWord, semWaitWord, word1, word2, Prog.lift, Prog.bind_op, Prog.bind_ret, Prog.pure_eq_ret]
  iintro ⟨#HC, HO, h1, h2, h3, h4, h6⟩ Hk
  have hs1 : mv m (lf c) (oHi c) fullShare (sent (prLH m c)) ⊢ pay m (fwd 3 c) 18 0 false := Entails.of_eq (by show _ = mv m (lf c) (oHi (rt (lf c))) fullShare (sent (prLH m (rt (lf c)))); simp only [rt_lf, lf_rt, op_op, lf_lf, rt_rt, rt_op, lf_op, op_rt, op_lf])
  iapply (send_step m K c _ 3 (dev16 c) 16 18 false (dues.drop 16) (src := p1) (dst := (oHi c)) rfl rfl fullShare (sent (prLH m c)) (amR _ _ rfl) rfl (by decide) (by decide) (by show _ ⊢ any c p1; exact mv_any m c p1 _) hs1) $$ [h1 h2 HO h3 h4]
  · isplitr; · iexact HC
    isplitl [h1]; · iexact h1
    isplitl [h2]; · iexact h2
    isplitl [HO]; · iexact HO
    isplitl [h3]; · iexact h3
    iexact h4
  iintro ⟨h5, HO⟩
  ihave Ho := (any_open m c tM) $$ h6
  icases Ho with ⟨%VtM, h7⟩
  iapply (load_full m c tM z2 _ fullShare (VtM)) $$ [h7]
  · iexact h7
  iintro h7
  iapply (store_full m c tM z2 _ (VtM) (amaxB m c)) $$ [h7]
  · iexact h7
  iintro h7
  rw [show k0_pay18 (k0_pay4 (k0_pay3 (prOwn m c))) (k0_pay6 (prLL m c)) (k0_pay8 (prRH m c)) (k0_pay11 (prOL m c)) (k0_pay13 (prOH m c)) (k0_pay15 (prRL m c)) (k0_pay17 (prLH m c)) = amax m c from rfl]
  iapply (ret_step c)
  iapply Hk
  isplitl [HO]; · iexact HO
  isplitl [h5]; · iexact h5
  iexact h7

/-- The largest magnitude goes to two of the others. -/
theorem part14 {Kt : (Σ' (_ : BitVec 32), BitVec 32) → sProp 𝕄} (v2 : BitVec 32) :
    iprop(Ctx m K ∗ Ow c (dues.drop 16) ∗ mv m c tM fullShare (amaxB m c) ∗ any (rt c) g2 ∗ Tok c 25 0 false ∗ Tok (rt c) 28 0 false ∗ any (op c) g1 ∗ Tok c 24 0 false ∗ Tok (op c) 27 0 false)
      ⊢ iprop((∀ (w w' : BitVec 32), Ow c (dues.drop 18) ∗ mv m c tM fullShare.right.right (amaxB m c) ∗ Cr c 25 false NA ∗ Cr c 24 false NA -∗ Kt ⟨w, w'⟩)
          -∗ WP c (k0_part14 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2) Kt) := by
  rw [k0_part14_eq_skeleton]
  unfold k0_part14_skel
  simp only [semSignalWord, semWaitWord, word1, word2, Prog.lift, Prog.bind_op, Prog.bind_ret, Prog.pure_eq_ret]
  iintro ⟨#HC, HO, h1, h6, h7, h8, h10, h11, h12⟩ Hk
  ihave Hh := (mv_halve m c tM fullShare (amaxB m c)).1 $$ h1
  icases Hh with ⟨h2, h3⟩
  ihave Hh := (mv_halve m c tM fullShare.right (amaxB m c)).1 $$ h3
  icases Hh with ⟨h4, h5⟩
  have hs1 : mv m (rt c) g2 fullShare (amaxB m c) ⊢ pay m (fwd 1 c) 28 0 false := Entails.of_eq (by show _ = mv m (rt c) g2 fullShare (amaxB m (lf (rt c))); simp only [rt_lf, lf_rt, op_op, lf_lf, rt_rt, rt_op, lf_op, op_rt, op_lf])
  iapply (send_step m K c _ 1 (dev17 c) 25 28 false (dues.drop 17) (src := tM) (dst := g2) rfl rfl fullShare.left (amaxB m c) (amA _ _ rfl) rfl (by decide) (by decide) .rfl hs1) $$ [h2 h6 HO h7 h8]
  · isplitr; · iexact HC
    isplitl [h2]; · iexact h2
    isplitl [h6]; · iexact h6
    isplitl [HO]; · iexact HO
    isplitl [h7]; · iexact h7
    iexact h8
  iintro ⟨h9, HO⟩
  have hs2 : mv m (op c) g1 fullShare (amaxB m c) ⊢ pay m (fwd 2 c) 27 0 false := Entails.of_eq (by show _ = mv m (op c) g1 fullShare (amaxB m (op (op c))); simp only [rt_lf, lf_rt, op_op, lf_lf, rt_rt, rt_op, lf_op, op_rt, op_lf])
  iapply (send_step m K c _ 2 (dev18 c) 24 27 false (dues.drop 18) (src := tM) (dst := g1) rfl rfl fullShare.right.left (amaxB m c) (amA _ _ rfl) rfl (by decide) (by decide) .rfl hs2) $$ [h4 h10 HO h11 h12]
  · isplitr; · iexact HC
    isplitl [h4]; · iexact h4
    isplitl [h10]; · iexact h10
    isplitl [HO]; · iexact HO
    isplitl [h11]; · iexact h11
    iexact h12
  iintro ⟨h13, HO⟩
  iapply (ret_step c)
  iapply Hk
  isplitl [HO]; · iexact HO
  isplitl [h5]; · iexact h5
  isplitl [h9]; · iexact h9
  iexact h13

/-- It goes to the third; the copies that left are waited for. -/
theorem part15 {Kt : (PUnit) → sProp 𝕄}  :
    iprop(Ctx m K ∗ Ow c (dues.drop 18) ∗ mv m c tM fullShare.right.right (amaxB m c) ∗ any (lf c) g0 ∗ Tok c 23 0 false ∗ Tok (lf c) 26 0 false ∗ Cr c 3 false NW ∗ At c 3 1 ∗ Cr c 7 false NW ∗ At c 7 1 ∗ Cr c 13 false NR ∗ At c 13 0)
      ⊢ iprop((Ow c (dues.drop 19) ∗ Cr c 23 false NA ∗ At c 3 2 ∗ Rch c 3 2 ∗ mv m c a1 fullShare.left (wL m (op c)) ∗ At c 7 2 ∗ Rch c 7 2 ∗ mv m c b1 fullShare.left (wH m (op c)) ∗ At c 13 1 ∗ Rch c 13 1 ∗ any c p2 -∗ Kt ⟨⟩)
          -∗ WP c (k0_part15 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c) Kt) := by
  rw [k0_part15_eq_skeleton]
  unfold k0_part15_skel
  simp only [semSignalWord, semWaitWord, word1, word2, Prog.lift, Prog.bind_op, Prog.bind_ret, Prog.pure_eq_ret]
  iintro ⟨#HC, HO, h1, h2, h3, h4, h6, h7, h11, h12, h16, h17⟩ Hk
  have hs1 : mv m (lf c) g0 fullShare (amaxB m c) ⊢ pay m (fwd 3 c) 26 0 false := Entails.of_eq (by show _ = mv m (lf c) g0 fullShare (amaxB m (rt (lf c))); simp only [rt_lf, lf_rt, op_op, lf_lf, rt_rt, rt_op, lf_op, op_rt, op_lf])
  iapply (send_step m K c _ 3 (dev19 c) 23 26 false (dues.drop 19) (src := tM) (dst := g0) rfl rfl fullShare.right.right (amaxB m c) (amA _ _ rfl) rfl (by decide) (by decide) .rfl hs1) $$ [h1 h2 HO h3 h4]
  · isplitr; · iexact HC
    isplitl [h1]; · iexact h1
    isplitl [h2]; · iexact h2
    isplitl [HO]; · iexact HO
    isplitl [h3]; · iexact h3
    iexact h4
  iintro ⟨h5, HO⟩
  iapply (wait_dma m K c 3 1 false (dues.drop 19) rfl (crW _ rfl) (by decide) (by decide) (iprop(mv m c a1 fullShare.left (wL m (op c)))) rfl) $$ [h6 HO h7]
  · isplitr; · iexact HC
    isplitl [h6]; · iexact h6
    isplitl [HO]; · iexact HO
    iexact h7
  iintro ⟨HO, h8, h9, h10⟩
  iapply (wait_dma m K c 7 1 false (dues.drop 19) rfl (crW _ rfl) (by decide) (by decide) (iprop(mv m c b1 fullShare.left (wH m (op c)))) rfl) $$ [h11 HO h12]
  · isplitr; · iexact HC
    isplitl [h11]; · iexact h11
    isplitl [HO]; · iexact HO
    iexact h12
  iintro ⟨HO, h13, h14, h15⟩
  iapply (wait_dma m K c 13 0 false (dues.drop 19) rfl (crR _ rfl) (by decide) (by decide) (iprop(any c p2)) rfl) $$ [h16 HO h17]
  · isplitr; · iexact HC
    isplitl [h16]; · iexact h16
    isplitl [HO]; · iexact HO
    iexact h17
  iintro ⟨HO, h18, h19, h20⟩
  iapply (ret_step c)
  iapply Hk
  isplitl [HO]; · iexact HO
  isplitl [h5]; · iexact h5
  isplitl [h8]; · iexact h8
  isplitl [h9]; · iexact h9
  isplitl [h10]; · iexact h10
  isplitl [h13]; · iexact h13
  isplitl [h14]; · iexact h14
  isplitl [h15]; · iexact h15
  isplitl [h18]; · iexact h18
  isplitl [h19]; · iexact h19
  iexact h20

/-- More of the copies that left, and the left neighbour's largest magnitude. -/
theorem part16 {Kt : (PUnit) → sProp 𝕄} (w : BitVec 32) :
    iprop(Ctx m K ∗ Ow c (dues.drop 19) ∗ Cr c 14 false NR ∗ At c 14 0 ∗ Cr c 15 false NR ∗ At c 15 0 ∗ Cr c 16 false NR ∗ At c 16 0 ∗ Cr c 25 false NA ∗ At c 25 0 ∗ Cr c 28 false NA ∗ At c 28 0)
      ⊢ iprop((Ow c (dues.drop 19) ∗ At c 14 1 ∗ Rch c 14 1 ∗ any c p3 ∗ At c 15 1 ∗ Rch c 15 1 ∗ any c p0 ∗ At c 16 1 ∗ Rch c 16 1 ∗ any c p1 ∗ At c 25 1 ∗ Rch c 25 1 ∗ mv m c tM fullShare.left (amaxB m c) ∗ At c 28 1 ∗ Rch c 28 1 ∗ mv m c g2 fullShare (amaxB m (lf c)) -∗ Kt ⟨⟩)
          -∗ WP c (k0_part16 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c w) Kt) := by
  rw [k0_part16_eq_skeleton]
  unfold k0_part16_skel
  simp only [semSignalWord, semWaitWord, word1, word2, Prog.lift, Prog.bind_op, Prog.bind_ret, Prog.pure_eq_ret]
  iintro ⟨#HC, HO, h1, h2, h6, h7, h11, h12, h16, h17, h21, h22⟩ Hk
  iapply (wait_dma m K c 14 0 false (dues.drop 19) rfl (crR _ rfl) (by decide) (by decide) (iprop(any c p3)) rfl) $$ [h1 HO h2]
  · isplitr; · iexact HC
    isplitl [h1]; · iexact h1
    isplitl [HO]; · iexact HO
    iexact h2
  iintro ⟨HO, h3, h4, h5⟩
  iapply (wait_dma m K c 15 0 false (dues.drop 19) rfl (crR _ rfl) (by decide) (by decide) (iprop(any c p0)) rfl) $$ [h6 HO h7]
  · isplitr; · iexact HC
    isplitl [h6]; · iexact h6
    isplitl [HO]; · iexact HO
    iexact h7
  iintro ⟨HO, h8, h9, h10⟩
  iapply (wait_dma m K c 16 0 false (dues.drop 19) rfl (crR _ rfl) (by decide) (by decide) (iprop(any c p1)) rfl) $$ [h11 HO h12]
  · isplitr; · iexact HC
    isplitl [h11]; · iexact h11
    isplitl [HO]; · iexact HO
    iexact h12
  iintro ⟨HO, h13, h14, h15⟩
  iapply (wait_dma m K c 25 0 false (dues.drop 19) rfl (crA _ rfl) (by decide) (by decide) (iprop(mv m c tM fullShare.left (amaxB m c))) rfl) $$ [h16 HO h17]
  · isplitr; · iexact HC
    isplitl [h16]; · iexact h16
    isplitl [HO]; · iexact HO
    iexact h17
  iintro ⟨HO, h18, h19, h20⟩
  iapply (wait_dma m K c 28 0 false (dues.drop 19) rfl (crA _ rfl) (by decide) (by decide) (iprop(mv m c g2 fullShare (amaxB m (lf c)))) rfl) $$ [h21 HO h22]
  · isplitr; · iexact HC
    isplitl [h21]; · iexact h21
    isplitl [HO]; · iexact HO
    iexact h22
  iintro ⟨HO, h23, h24, h25⟩
  iapply (ret_step c)
  iapply Hk
  isplitl [HO]; · iexact HO
  isplitl [h3]; · iexact h3
  isplitl [h4]; · iexact h4
  isplitl [h5]; · iexact h5
  isplitl [h8]; · iexact h8
  isplitl [h9]; · iexact h9
  isplitl [h10]; · iexact h10
  isplitl [h13]; · iexact h13
  isplitl [h14]; · iexact h14
  isplitl [h15]; · iexact h15
  isplitl [h18]; · iexact h18
  isplitl [h19]; · iexact h19
  isplitl [h20]; · iexact h20
  isplitl [h23]; · iexact h23
  isplitl [h24]; · iexact h24
  iexact h25

end Cert.RingGemm

end
-- ==== Proof.Finish.lean ====
/-
# The end of the exchange

The largest magnitudes are compared and the products have come home.
-/
module

public import proofs.«01_k».proof.Proof.Steps

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)
/-- The others' largest magnitudes are compared. -/
theorem part17 {Kt : (F .f32) → sProp 𝕄} (w w' : BitVec 32) :
    iprop(Ctx m K ∗ Ow c (dues.drop 19) ∗ Cr c 24 false NA ∗ At c 24 0 ∗ Cr c 27 false NA ∗ At c 27 0 ∗ Cr c 23 false NA ∗ At c 23 0 ∗ Cr c 26 false NA ∗ At c 26 0)
      ⊢ iprop((Ow c (dues.drop 19) ∗ At c 24 1 ∗ Rch c 24 1 ∗ mv m c tM fullShare.right.left (amaxB m c) ∗ At c 27 1 ∗ Rch c 27 1 ∗ At c 23 1 ∗ Rch c 23 1 ∗ mv m c tM fullShare.right.right (amaxB m c) ∗ At c 26 1 ∗ Rch c 26 1 ∗ mv m c g0 fullShare (amaxB m (rt c)) ∗ mv m c g1 fullShare (amaxB m (op c)) -∗ Kt (k0_pay20 (amax m c) (corner (amaxB m (rt c))) (corner (amaxB m (op c)))))
          -∗ WP c (k0_part17 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 (amax m c) w w') Kt) := by
  rw [k0_part17_eq_skeleton]
  unfold k0_part17_skel
  simp only [semSignalWord, semWaitWord, word1, word2, Prog.lift, Prog.bind_op, Prog.bind_ret, Prog.pure_eq_ret]
  iintro ⟨#HC, HO, h1, h2, h6, h7, h11, h12, h16, h17⟩ Hk
  iapply (wait_dma m K c 24 0 false (dues.drop 19) rfl (crA _ rfl) (by decide) (by decide) (iprop(mv m c tM fullShare.right.left (amaxB m c))) rfl) $$ [h1 HO h2]
  · isplitr; · iexact HC
    isplitl [h1]; · iexact h1
    isplitl [HO]; · iexact HO
    iexact h2
  iintro ⟨HO, h3, h4, h5⟩
  iapply (wait_dma m K c 27 0 false (dues.drop 19) rfl (crA _ rfl) (by decide) (by decide) (iprop(mv m c g1 fullShare (amaxB m (op c)))) rfl) $$ [h6 HO h7]
  · isplitr; · iexact HC
    isplitl [h6]; · iexact h6
    isplitl [HO]; · iexact HO
    iexact h7
  iintro ⟨HO, h8, h9, h10⟩
  iapply (wait_dma m K c 23 0 false (dues.drop 19) rfl (crA _ rfl) (by decide) (by decide) (iprop(mv m c tM fullShare.right.right (amaxB m c))) rfl) $$ [h11 HO h12]
  · isplitr; · iexact HC
    isplitl [h11]; · iexact h11
    isplitl [HO]; · iexact HO
    iexact h12
  iintro ⟨HO, h13, h14, h15⟩
  iapply (wait_dma m K c 26 0 false (dues.drop 19) rfl (crA _ rfl) (by decide) (by decide) (iprop(mv m c g0 fullShare (amaxB m (rt c)))) rfl) $$ [h16 HO h17]
  · isplitr; · iexact HC
    isplitl [h16]; · iexact h16
    isplitl [HO]; · iexact HO
    iexact h17
  iintro ⟨HO, h18, h19, h20⟩
  iapply (load_corner m c (Rect.unit (s := S3x8x128) ![0, 0, 0] S1x8x128.size inb_S3x8x128_S1x8x128_0_0_0) (fun _ => rfl) squeezes_S1x8x128_S8x128 _ rfl (amaxB m (rt c)) (corner_slot _ _) (corner (amaxB m (rt c))) rfl) $$ [h20]
  · iexact h20
  iintro h20
  iapply (load_corner m c (Rect.unit (s := S3x8x128) ![1, 0, 0] S1x8x128.size inb_S3x8x128_S1x8x128_1_0_0) (fun _ => rfl) squeezes_S1x8x128_S8x128 _ rfl (amaxB m (op c)) (corner_slot _ _) (corner (amaxB m (op c))) rfl) $$ [h10]
  · iexact h10
  iintro h10
  iapply (ret_step c)
  iapply Hk
  isplitl [HO]; · iexact HO
  isplitl [h3]; · iexact h3
  isplitl [h4]; · iexact h4
  isplitl [h5]; · iexact h5
  isplitl [h8]; · iexact h8
  isplitl [h9]; · iexact h9
  isplitl [h13]; · iexact h13
  isplitl [h14]; · iexact h14
  isplitl [h15]; · iexact h15
  isplitl [h18]; · iexact h18
  isplitl [h19]; · iexact h19
  isplitl [h20]; · iexact h20
  iexact h10

/-- The largest of all, and the right neighbour's first product. -/
theorem part18 {Kt : (Σ' (_ : F .f32), BitVec 32) → sProp 𝕄} (v2 : BitVec 32) :
    iprop(Ctx m K ∗ Ow c (dues.drop 19) ∗ mv m c g2 fullShare (amaxB m (lf c)) ∗ Cr c 17 false NR ∗ At c 17 0)
      ⊢ iprop((∀ (w : BitVec 32), Ow c (dues.drop 19) ∗ mv m c g2 fullShare (amaxB m (lf c)) ∗ At c 17 1 ∗ Rch c 17 1 ∗ mv m c (oLo (rt c)) fullShare (sent (prLL m (rt c))) -∗ Kt ⟨gmax m c, w⟩)
          -∗ WP c (k0_part18 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 (k0_pay20 (amax m c) (corner (amaxB m (rt c))) (corner (amaxB m (op c))))) Kt) := by
  rw [k0_part18_eq_skeleton]
  unfold k0_part18_skel
  simp only [semSignalWord, semWaitWord, word1, word2, Prog.lift, Prog.bind_op, Prog.bind_ret, Prog.pure_eq_ret]
  iintro ⟨#HC, HO, h1, h2, h3⟩ Hk
  iapply (load_corner m c (Rect.unit (s := S3x8x128) ![2, 0, 0] S1x8x128.size inb_S3x8x128_S1x8x128_2_0_0) (fun _ => rfl) squeezes_S1x8x128_S8x128 _ rfl (amaxB m (lf c)) (corner_slot _ _) (corner (amaxB m (lf c))) rfl) $$ [h1]
  · iexact h1
  iintro h1
  iapply (wait_dma m K c 17 0 false (dues.drop 19) rfl (crR _ rfl) (by decide) (by decide) (iprop(mv m c (oLo (rt c)) fullShare (sent (prLL m (rt c))))) rfl) $$ [h2 HO h3]
  · isplitr; · iexact HC
    isplitl [h2]; · iexact h2
    isplitl [HO]; · iexact HO
    iexact h3
  iintro ⟨HO, h4, h5, h6⟩
  rw [show k0_pay21 (k0_pay20 (amax m c) (corner (amaxB m (rt c))) (corner (amaxB m (op c)))) (corner (amaxB m (lf c))) = gmax m c from rfl]
  iapply (ret_step c)
  iapply Hk
  isplitl [HO]; · iexact HO
  isplitl [h1]; · iexact h1
  isplitl [h4]; · iexact h4
  isplitl [h5]; · iexact h5
  iexact h6

/-- The right neighbour's second product and the opposite device's first. -/
theorem part19 {Kt : (Σ' (_ : BitVec 32) (_ : BitVec 32) (_ : BitVec 1), BitVec 32) → sProp 𝕄} (v2 w : BitVec 32) :
    iprop(Ctx m K ∗ Ow c (dues.drop 19) ∗ Cr c 18 false NR ∗ At c 18 0 ∗ Cr c 19 false NR ∗ At c 19 0)
      ⊢ iprop((∀ (w1 w2 : BitVec 32) (w3 : BitVec 1) (w4 : BitVec 32), Ow c (dues.drop 19) ∗ At c 18 1 ∗ Rch c 18 1 ∗ mv m c (oHi (rt c)) fullShare (sent (prLH m (rt c))) ∗ At c 19 1 ∗ Rch c 19 1 ∗ mv m c (oLo (op c)) fullShare (sent (prOL m (op c))) -∗ Kt ⟨w1, w2, w3, w4⟩)
          -∗ WP c (k0_part19 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 w) Kt) := by
  rw [k0_part19_eq_skeleton]
  unfold k0_part19_skel
  simp only [semSignalWord, semWaitWord, word1, word2, Prog.lift, Prog.bind_op, Prog.bind_ret, Prog.pure_eq_ret]
  iintro ⟨#HC, HO, h1, h2, h6, h7⟩ Hk
  iapply (wait_dma m K c 18 0 false (dues.drop 19) rfl (crR _ rfl) (by decide) (by decide) (iprop(mv m c (oHi (rt c)) fullShare (sent (prLH m (rt c))))) rfl) $$ [h1 HO h2]
  · isplitr; · iexact HC
    isplitl [h1]; · iexact h1
    isplitl [HO]; · iexact HO
    iexact h2
  iintro ⟨HO, h3, h4, h5⟩
  iapply (wait_dma m K c 19 0 false (dues.drop 19) rfl (crR _ rfl) (by decide) (by decide) (iprop(mv m c (oLo (op c)) fullShare (sent (prOL m (op c))))) rfl) $$ [h6 HO h7]
  · isplitr; · iexact HC
    isplitl [h6]; · iexact h6
    isplitl [HO]; · iexact HO
    iexact h7
  iintro ⟨HO, h8, h9, h10⟩
  iapply (ret_step c)
  iapply Hk
  isplitl [HO]; · iexact HO
  isplitl [h3]; · iexact h3
  isplitl [h4]; · iexact h4
  isplitl [h5]; · iexact h5
  isplitl [h8]; · iexact h8
  isplitl [h9]; · iexact h9
  iexact h10

/-- The opposite device's second product. -/
theorem part20 {Kt : (PUnit) → sProp 𝕄} (v2 w1 w2 : BitVec 32) (w3 : BitVec 1) (w4 : BitVec 32) :
    iprop(Ctx m K ∗ Ow c (dues.drop 19) ∗ Cr c 20 false NR ∗ At c 20 0)
      ⊢ iprop((Ow c (dues.drop 19) ∗ At c 20 1 ∗ Rch c 20 1 ∗ mv m c (oHi (op c)) fullShare (sent (prOH m (op c))) -∗ Kt ⟨⟩)
          -∗ WP c (k0_part20 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14 c v2 w1 w2 w3 w4) Kt) := by
  rw [k0_part20_eq_skeleton]
  unfold k0_part20_skel
  simp only [semSignalWord, semWaitWord, word1, word2, Prog.lift, Prog.bind_op, Prog.bind_ret, Prog.pure_eq_ret]
  iintro ⟨#HC, HO, h1, h2⟩ Hk
  iapply (wait_dma m K c 20 0 false (dues.drop 19) rfl (crR _ rfl) (by decide) (by decide) (iprop(mv m c (oHi (op c)) fullShare (sent (prOH m (op c))))) rfl) $$ [h1 HO h2]
  · isplitr; · iexact HC
    isplitl [h1]; · iexact h1
    isplitl [HO]; · iexact HO
    iexact h2
  iintro ⟨HO, h3, h4, h5⟩
  iapply (ret_step c)
  iapply Hk
  isplitl [HO]; · iexact HO
  isplitl [h3]; · iexact h3
  isplitl [h4]; · iexact h4
  iexact h5

end Cert.RingGemm

end
-- ==== Proof.Body.lean ====
/-
# One device, from its own resources to its scaled columns

The parts follow one another; what a device starts with and what it ends with, then the whole kernel.
-/
module

public import proofs.«01_k».proof.Proof.Whole
public import proofs.«01_k».proof.Proof.Meet
public import proofs.«01_k».proof.Proof.Rings
public import proofs.«01_k».proof.Proof.Products
public import proofs.«01_k».proof.Proof.Gather
public import proofs.«01_k».proof.Proof.Finish

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)

/-- The payments a device may make: into its neighbours' cells, and its copies' own confirmations. -/
def Toks (c : Dev nD) : sProp 𝕄 :=
  iprop(Tok (lf c) 2 0 true
    ∗ Tok (rt c) 2 0 false
    ∗ Tok c 3 0 false
    ∗ Tok (rt c) 5 0 false
    ∗ Tok c 7 0 false
    ∗ Tok (lf c) 9 0 false
    ∗ Tok c 4 0 false
    ∗ Tok (rt c) 6 0 false
    ∗ Tok c 8 0 false
    ∗ Tok (lf c) 10 0 false
    ∗ Tok c 11 0 false
    ∗ Tok (lf c) 17 0 false
    ∗ Tok c 12 0 false
    ∗ Tok (rt c) 22 0 false
    ∗ Tok (lf c) 0 0 false
    ∗ Tok (rt c) 1 0 false
    ∗ Tok c 3 1 false
    ∗ Tok (rt c) 5 1 false
    ∗ Tok c 7 1 false
    ∗ Tok (lf c) 9 1 false
    ∗ Tok c 13 0 false
    ∗ Tok (op c) 19 0 false
    ∗ Tok c 14 0 false
    ∗ Tok (op c) 20 0 false
    ∗ Tok c 15 0 false
    ∗ Tok (rt c) 21 0 false
    ∗ Tok c 16 0 false
    ∗ Tok (lf c) 18 0 false
    ∗ Tok c 25 0 false
    ∗ Tok (rt c) 28 0 false
    ∗ Tok c 24 0 false
    ∗ Tok (op c) 27 0 false
    ∗ Tok c 23 0 false
    ∗ Tok (lf c) 26 0 false)

/-- The waits a device may perform, save the last one. -/
def Creds (c : Dev nD) : sProp 𝕄 :=
  iprop(Cr c 2 false 2
    ∗ Cr c 5 false NW
    ∗ Cr c 9 false NW
    ∗ Cr c 6 false NW
    ∗ Cr c 10 false NW
    ∗ Cr c 0 false 1
    ∗ Cr c 1 false 1
    ∗ Cr c 5 true NW
    ∗ Cr c 9 true NW
    ∗ Cr c 28 false NA
    ∗ Cr c 27 false NA
    ∗ Cr c 26 false NA
    ∗ Cr c 17 false NR
    ∗ Cr c 18 false NR
    ∗ Cr c 19 false NR
    ∗ Cr c 20 false NR
    ∗ Cr c 21 false NR)

/-- A device at the start of all of its cells, save the last one waited for. -/
def Posn (c : Dev nD) : sProp 𝕄 :=
  iprop(At c 0 0
    ∗ At c 1 0
    ∗ At c 2 0
    ∗ At c 3 0
    ∗ At c 4 0
    ∗ At c 5 0
    ∗ At c 6 0
    ∗ At c 7 0
    ∗ At c 8 0
    ∗ At c 9 0
    ∗ At c 10 0
    ∗ At c 11 0
    ∗ At c 12 0
    ∗ At c 13 0
    ∗ At c 14 0
    ∗ At c 15 0
    ∗ At c 16 0
    ∗ At c 17 0
    ∗ At c 18 0
    ∗ At c 19 0
    ∗ At c 20 0
    ∗ At c 21 0
    ∗ At c 23 0
    ∗ At c 24 0
    ∗ At c 25 0
    ∗ At c 26 0
    ∗ At c 27 0
    ∗ At c 28 0)

/-- The same cells at the end. -/
def PosnEnd (c : Dev nD) : sProp 𝕄 :=
  iprop(At c 0 1
    ∗ At c 1 1
    ∗ At c 2 1
    ∗ At c 3 2
    ∗ At c 4 1
    ∗ At c 5 2
    ∗ At c 6 1
    ∗ At c 7 2
    ∗ At c 8 1
    ∗ At c 9 2
    ∗ At c 10 1
    ∗ At c 11 1
    ∗ At c 12 1
    ∗ At c 13 1
    ∗ At c 14 1
    ∗ At c 15 1
    ∗ At c 16 1
    ∗ At c 17 1
    ∗ At c 18 1
    ∗ At c 19 1
    ∗ At c 20 1
    ∗ At c 21 1
    ∗ At c 23 1
    ∗ At c 24 1
    ∗ At c 25 1
    ∗ At c 26 1
    ∗ At c 27 1
    ∗ At c 28 1)

/-- The windows of a device, their contents arbitrary. -/
def Room (c : Dev nD) : sProp 𝕄 :=
  iprop(any c a0
    ∗ any c a1
    ∗ any c (oLo (lf c))
    ∗ any c (oHi (lf c))
    ∗ any c g2
    ∗ any c b0
    ∗ any c b1
    ∗ any c (oLo (rt c))
    ∗ any c (oHi (rt c))
    ∗ any c g0
    ∗ any c (oLo (op c))
    ∗ any c (oHi (op c))
    ∗ any c g1
    ∗ any c (oRow c)
    ∗ any c p0
    ∗ any c p1
    ∗ any c p2
    ∗ any c p3
    ∗ any c tM)

/-- The two staged inputs, the columns in the pieces the copies take. -/
def Given (m : (ℓ : Loc nD τ sig) → Buf (Elt F) ℓ) (c : Dev nD) : sProp 𝕄 :=
  iprop(mv m c wLo fullShare.left (wL m c)
    ∗ mv m c wHi fullShare.left (wH m c)
    ∗ mv m c xM fullShare (xv m c)
    ∗ mv m c wM fullShare.right (wv m c))

/-- What the windows hold before the last wait. -/
def Left (m : (ℓ : Loc nD τ sig) → Buf (Elt F) ℓ) (c : Dev nD) : sProp 𝕄 :=
  iprop(mv m c wM fullShare.right (wv m c)
    ∗ mv m c (oRow c) fullShare (prOwn m c)
    ∗ mv m c wLo fullShare.left (wL m c)
    ∗ mv m c wHi fullShare.left (wH m c)
    ∗ mv m c a1 fullShare.right (wL m (op c))
    ∗ mv m c b1 fullShare.right (wH m (op c))
    ∗ mv m c a0 fullShare (wL m (rt c))
    ∗ mv m c xM fullShare (xv m c)
    ∗ mv m c b0 fullShare (wH m (lf c))
    ∗ mv m c a1 fullShare.left (wL m (op c))
    ∗ mv m c b1 fullShare.left (wH m (op c))
    ∗ any c p2
    ∗ any c p3
    ∗ any c p0
    ∗ any c p1
    ∗ mv m c tM fullShare.left (amaxB m c)
    ∗ mv m c tM fullShare.right.left (amaxB m c)
    ∗ mv m c tM fullShare.right.right (amaxB m c)
    ∗ mv m c g0 fullShare (amaxB m (rt c))
    ∗ mv m c g1 fullShare (amaxB m (op c))
    ∗ mv m c g2 fullShare (amaxB m (lf c))
    ∗ mv m c (oLo (rt c)) fullShare (sent (prLL m (rt c)))
    ∗ mv m c (oHi (rt c)) fullShare (sent (prLH m (rt c)))
    ∗ mv m c (oLo (op c)) fullShare (sent (prOL m (op c)))
    ∗ mv m c (oHi (op c)) fullShare (sent (prOH m (op c)))
    ∗ mv m c (oLo (lf c)) fullShare (sent (prRL m (lf c))))

/-- The parts up to the last wait but one. -/
theorem part21 {Kt : (Σ' (_ : Dev nD), F .f32) → sProp 𝕄} :
    iprop(Ctx m K ∗ Ow c (dues.drop 0) ∗ Toks c ∗ Creds c ∗ Posn c ∗ Room c ∗ Given m c)
      ⊢ iprop((Ow c (dues.drop 19) ∗ PosnEnd c ∗ Left m c -∗ Kt ⟨c, gmax m c⟩)
          -∗ WP c (k0_part21 (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14) Kt) := by
  rw [k0_part21_eq_skeleton]
  unfold k0_part21_skel Toks Creds Posn Room Given PosnEnd Left
  iintro ⟨#HC, h1, ⟨h2, h8, h36, h37, h39, h40, h54, h55, h67, h68, h76, h77, h79, h80, h88, h100, h116, h117, h120, h121, h133, h134, h142, h143, h161, h162, h171, h172, h177, h178, h179, h180, h185, h186⟩, ⟨h17, h50, h52, h101, h103, h114, h118, h144, h150, h203, h222, h225, h240, h247, h249, h258, h264⟩, ⟨h115, h119, h18, h86, h87, h51, h102, h89, h99, h53, h104, h151, h163, h187, h199, h200, h201, h241, h248, h250, h259, h265, h224, h221, h202, h226, h223, h204⟩, ⟨h3, h4, h5, h6, h7, h9, h10, h11, h12, h13, h14, h15, h16, h43, h69, h78, h132, h135, h173⟩, ⟨h35, h38, h41, h42⟩⟩ Hk
  iapply (bind_step c)
  iapply (part1 m K c ) $$ [h1 h2 h3 h4 h5 h6 h7 h8 h9 h10 h11 h12 h13 h14 h15 h16 h17 h18]
  · isplitr; · iexact HC
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    isplitl [h17]; · iexact h17
    iexact h18
  iintro %v2 %v13 %v24 ⟨h19, h20, h21, h22, h23, h24, h25, h26, h27, h28, h29, h30, h31, h32, h33, h34⟩
  iapply (bind_step c)
  iapply (part2 m K c v2 v13 v24) $$ [h19 h35 h22 h36 h37 h32 h33 h34 h38 h27 h39 h40 h41 h42 h43]
  · isplitr; · iexact HC
    isplitl [h19]; · iexact h19
    isplitl [h35]; · iexact h35
    isplitl [h22]; · iexact h22
    isplitl [h36]; · iexact h36
    isplitl [h37]; · iexact h37
    isplitl [h32]; · iexact h32
    isplitl [h33]; · iexact h33
    isplitl [h34]; · iexact h34
    isplitl [h38]; · iexact h38
    isplitl [h27]; · iexact h27
    isplitl [h39]; · iexact h39
    isplitl [h40]; · iexact h40
    isplitl [h41]; · iexact h41
    isplitl [h42]; · iexact h42
    iexact h43
  iintro  ⟨h44, h45, h46, h47, h48, h49⟩
  iapply (bind_step c)
  iapply (part3 m K c v13 v24 (k0_pay3 (prOwn m c))) $$ [h44 h50 h51 h52 h53 h23 h54 h55]
  · isplitr; · iexact HC
    isplitl [h44]; · iexact h44
    isplitl [h50]; · iexact h50
    isplitl [h51]; · iexact h51
    isplitl [h52]; · iexact h52
    isplitl [h53]; · iexact h53
    isplitl [h23]; · iexact h23
    isplitl [h54]; · iexact h54
    iexact h55
  iintro  ⟨h56, h57, h58, h59, h60, h61, h62, h63, h64, h65, h66⟩
  iapply (bind_step c)
  iapply (part4 m K c v2 v13) $$ [h56 h64 h28 h67 h68 h47 h65 h69]
  · isplitr; · iexact HC
    isplitl [h56]; · iexact h56
    isplitl [h64]; · iexact h64
    isplitl [h28]; · iexact h28
    isplitl [h67]; · iexact h67
    isplitl [h68]; · iexact h68
    isplitl [h47]; · iexact h47
    isplitl [h65]; · iexact h65
    iexact h69
  iintro  ⟨h70, h71, h72, h73, h74, h75⟩
  iapply (bind_step c)
  iapply (part5 m K c v2 v24) $$ [h70 h75 h29 h76 h77 h73 h71 h78 h25 h79 h80]
  · isplitr; · iexact HC
    isplitl [h70]; · iexact h70
    isplitl [h75]; · iexact h75
    isplitl [h29]; · iexact h29
    isplitl [h76]; · iexact h76
    isplitl [h77]; · iexact h77
    isplitl [h73]; · iexact h73
    isplitl [h71]; · iexact h71
    isplitl [h78]; · iexact h78
    isplitl [h25]; · iexact h25
    isplitl [h79]; · iexact h79
    iexact h80
  iintro  ⟨h81, h82, h83, h84, h85⟩
  iapply (bind_step c)
  iapply (part6 m K c v13) $$ [h81 h45 h86 h66 h87 h74 h88 h58 h46 h89]
  · isplitr; · iexact HC
    isplitl [h81]; · iexact h81
    isplitl [h45]; · iexact h45
    isplitl [h86]; · iexact h86
    isplitl [h66]; · iexact h66
    isplitl [h87]; · iexact h87
    isplitl [h74]; · iexact h74
    isplitl [h88]; · iexact h88
    isplitl [h58]; · iexact h58
    isplitl [h46]; · iexact h46
    iexact h89
  iintro  ⟨h90, h91, h92, h93, h94, h95, h96, h97, h98⟩
  iapply (bind_step c)
  iapply (part7 m K c v2 v13 v24) $$ [h90 h72 h99 h84 h100 h63 h101 h102 h103 h104]
  · isplitr; · iexact HC
    isplitl [h90]; · iexact h90
    isplitl [h72]; · iexact h72
    isplitl [h99]; · iexact h99
    isplitl [h84]; · iexact h84
    isplitl [h100]; · iexact h100
    isplitl [h63]; · iexact h63
    isplitl [h101]; · iexact h101
    isplitl [h102]; · iexact h102
    isplitl [h103]; · iexact h103
    iexact h104
  iintro %y1 %y2 %y3 %y4 ⟨h105, h106, h107, h108, h109, h110, h111, h112, h113⟩
  iapply (bind_step c)
  iapply (part8 m K c v13 v24 y1 y2 y3 y4) $$ [h105 h114 h115 h110 h116 h117 h92 h118 h119 h113 h120 h121 h97 h83]
  · isplitr; · iexact HC
    isplitl [h105]; · iexact h105
    isplitl [h114]; · iexact h114
    isplitl [h115]; · iexact h115
    isplitl [h110]; · iexact h110
    isplitl [h116]; · iexact h116
    isplitl [h117]; · iexact h117
    isplitl [h92]; · iexact h92
    isplitl [h118]; · iexact h118
    isplitl [h119]; · iexact h119
    isplitl [h113]; · iexact h113
    isplitl [h120]; · iexact h120
    isplitl [h121]; · iexact h121
    isplitl [h97]; · iexact h97
    iexact h83
  iintro %x1 ⟨h122, h123, h124, h125, h126, h127, h128, h129, h130, h131⟩
  iapply (bind_step c)
  iapply (part9 m K c v2 x1) $$ [h122 h125 h132 h59 h133 h134 h131 h129 h135]
  · isplitr; · iexact HC
    isplitl [h122]; · iexact h122
    isplitl [h125]; · iexact h125
    isplitl [h132]; · iexact h132
    isplitl [h59]; · iexact h59
    isplitl [h133]; · iexact h133
    isplitl [h134]; · iexact h134
    isplitl [h131]; · iexact h131
    isplitl [h129]; · iexact h129
    iexact h135
  iintro  ⟨h136, h137, h138, h139, h140, h141⟩
  iapply (bind_step c)
  iapply (part10 m K c v2 v13 v24 x1) $$ [h136 h141 h60 h142 h143 h144 h57]
  · isplitr; · iexact HC
    isplitl [h136]; · iexact h136
    isplitl [h141]; · iexact h141
    isplitl [h60]; · iexact h60
    isplitl [h142]; · iexact h142
    isplitl [h143]; · iexact h143
    isplitl [h144]; · iexact h144
    iexact h57
  iintro  ⟨h145, h146, h147, h148, h149⟩
  iapply (bind_step c)
  iapply (part11 m K c v2 v24) $$ [h145 h150 h62 h82 h151 h139 h149]
  · isplitr; · iexact HC
    isplitl [h145]; · iexact h145
    isplitl [h150]; · iexact h150
    isplitl [h62]; · iexact h62
    isplitl [h82]; · iexact h82
    isplitl [h151]; · iexact h151
    isplitl [h139]; · iexact h139
    iexact h149
  iintro %z1 %z2 ⟨h152, h153, h154, h155, h156, h157, h158, h159, h160⟩
  iapply (bind_step c)
  iapply (part12 m K c v2 z1 z2) $$ [h152 h160 h24 h161 h162 h85 h163 h158 h155]
  · isplitr; · iexact HC
    isplitl [h152]; · iexact h152
    isplitl [h160]; · iexact h160
    isplitl [h24]; · iexact h24
    isplitl [h161]; · iexact h161
    isplitl [h162]; · iexact h162
    isplitl [h85]; · iexact h85
    isplitl [h163]; · iexact h163
    isplitl [h158]; · iexact h158
    iexact h155
  iintro %z3 ⟨h164, h165, h166, h167, h168, h169, h170⟩
  iapply (bind_step c)
  iapply (part13 m K c v2 v13 z3) $$ [h164 h170 h30 h171 h172 h173]
  · isplitr; · iexact HC
    isplitl [h164]; · iexact h164
    isplitl [h170]; · iexact h170
    isplitl [h30]; · iexact h30
    isplitl [h171]; · iexact h171
    isplitl [h172]; · iexact h172
    iexact h173
  iintro %z4 ⟨h174, h175, h176⟩
  iapply (bind_step c)
  iapply (part14 m K c v2) $$ [h174 h176 h26 h177 h178 h61 h179 h180]
  · isplitr; · iexact HC
    isplitl [h174]; · iexact h174
    isplitl [h176]; · iexact h176
    isplitl [h26]; · iexact h26
    isplitl [h177]; · iexact h177
    isplitl [h178]; · iexact h178
    isplitl [h61]; · iexact h61
    isplitl [h179]; · iexact h179
    iexact h180
  iintro %z5 %z6 ⟨h181, h182, h183, h184⟩
  iapply (bind_step c)
  iapply (part15 m K c ) $$ [h181 h182 h31 h185 h186 h126 h91 h130 h96 h138 h187]
  · isplitr; · iexact HC
    isplitl [h181]; · iexact h181
    isplitl [h182]; · iexact h182
    isplitl [h31]; · iexact h31
    isplitl [h185]; · iexact h185
    isplitl [h186]; · iexact h186
    isplitl [h126]; · iexact h126
    isplitl [h91]; · iexact h91
    isplitl [h130]; · iexact h130
    isplitl [h96]; · iexact h96
    isplitl [h138]; · iexact h138
    iexact h187
  iintro  ⟨h188, h189, h190, h191, h192, h193, h194, h195, h196, h197, h198⟩
  iapply (bind_step c)
  iapply (part16 m K c z4) $$ [h188 h146 h199 h165 h200 h175 h201 h183 h202 h203 h204]
  · isplitr; · iexact HC
    isplitl [h188]; · iexact h188
    isplitl [h146]; · iexact h146
    isplitl [h199]; · iexact h199
    isplitl [h165]; · iexact h165
    isplitl [h200]; · iexact h200
    isplitl [h175]; · iexact h175
    isplitl [h201]; · iexact h201
    isplitl [h183]; · iexact h183
    isplitl [h202]; · iexact h202
    isplitl [h203]; · iexact h203
    iexact h204
  iintro  ⟨h205, h206, h207, h208, h209, h210, h211, h212, h213, h214, h215, h216, h217, h218, h219, h220⟩
  iapply (bind_step c)
  iapply (part17 m K c z5 z6) $$ [h205 h184 h221 h222 h223 h189 h224 h225 h226]
  · isplitr; · iexact HC
    isplitl [h205]; · iexact h205
    isplitl [h184]; · iexact h184
    isplitl [h221]; · iexact h221
    isplitl [h222]; · iexact h222
    isplitl [h223]; · iexact h223
    isplitl [h189]; · iexact h189
    isplitl [h224]; · iexact h224
    isplitl [h225]; · iexact h225
    iexact h226
  iintro  ⟨h227, h228, h229, h230, h231, h232, h233, h234, h235, h236, h237, h238, h239⟩
  iapply (bind_step c)
  iapply (part18 m K c v2) $$ [h227 h220 h240 h241]
  · isplitr; · iexact HC
    isplitl [h227]; · iexact h227
    isplitl [h220]; · iexact h220
    isplitl [h240]; · iexact h240
    iexact h241
  iintro %z7 ⟨h242, h243, h244, h245, h246⟩
  iapply (bind_step c)
  iapply (part19 m K c v2 z7) $$ [h242 h247 h248 h249 h250]
  · isplitr; · iexact HC
    isplitl [h242]; · iexact h242
    isplitl [h247]; · iexact h247
    isplitl [h248]; · iexact h248
    isplitl [h249]; · iexact h249
    iexact h250
  iintro %q1 %q2 %q3 %q4 ⟨h251, h252, h253, h254, h255, h256, h257⟩
  iapply (bind_step c)
  iapply (part20 m K c v2 q1 q2 q3 q4) $$ [h251 h258 h259]
  · isplitr; · iexact HC
    isplitl [h251]; · iexact h251
    isplitl [h258]; · iexact h258
    iexact h259
  iintro  ⟨h260, h261, h262, h263⟩
  simp only [Prog.lift, Prog.bind_op, Prog.bind_ret, Prog.pure_eq_ret]
  iapply (wait_dma m K c 21 0 false (dues.drop 19) rfl (crR _ rfl) (by decide) (by decide) (iprop(mv m c (oLo (lf c)) fullShare (sent (prRL m (lf c))))) rfl) $$ [h264 h260 h265]
  · isplitr; · iexact HC
    isplitl [h264]; · iexact h264
    isplitl [h260]; · iexact h260
    iexact h265
  iintro ⟨HO, h266, h267, h268⟩
  iapply (ret_step c)
  iapply Hk
  isplitl [HO]; · iexact HO
  isplitl [h123 h127 h20 h190 h94 h147 h108 h193 h106 h153 h111 h156 h166 h196 h206 h209 h212 h244 h252 h255 h261 h266 h233 h228 h215 h236 h231 h218]
  · isplitl [h123]; · iexact h123
    isplitl [h127]; · iexact h127
    isplitl [h20]; · iexact h20
    isplitl [h190]; · iexact h190
    isplitl [h94]; · iexact h94
    isplitl [h147]; · iexact h147
    isplitl [h108]; · iexact h108
    isplitl [h193]; · iexact h193
    isplitl [h106]; · iexact h106
    isplitl [h153]; · iexact h153
    isplitl [h111]; · iexact h111
    isplitl [h156]; · iexact h156
    isplitl [h166]; · iexact h166
    isplitl [h196]; · iexact h196
    isplitl [h206]; · iexact h206
    isplitl [h209]; · iexact h209
    isplitl [h212]; · iexact h212
    isplitl [h244]; · iexact h244
    isplitl [h252]; · iexact h252
    isplitl [h255]; · iexact h255
    isplitl [h261]; · iexact h261
    isplitl [h266]; · iexact h266
    isplitl [h233]; · iexact h233
    isplitl [h228]; · iexact h228
    isplitl [h215]; · iexact h215
    isplitl [h236]; · iexact h236
    isplitl [h231]; · iexact h231
    iexact h218
  isplitl [h48]; · iexact h48
  isplitl [h49]; · iexact h49
  isplitl [h93]; · iexact h93
  isplitl [h98]; · iexact h98
  isplitl [h137]; · iexact h137
  isplitl [h140]; · iexact h140
  isplitl [h159]; · iexact h159
  isplitl [h168]; · iexact h168
  isplitl [h169]; · iexact h169
  isplitl [h192]; · iexact h192
  isplitl [h195]; · iexact h195
  isplitl [h198]; · iexact h198
  isplitl [h208]; · iexact h208
  isplitl [h211]; · iexact h211
  isplitl [h214]; · iexact h214
  isplitl [h217]; · iexact h217
  isplitl [h230]; · iexact h230
  isplitl [h235]; · iexact h235
  isplitl [h238]; · iexact h238
  isplitl [h239]; · iexact h239
  isplitl [h243]; · iexact h243
  isplitl [h246]; · iexact h246
  isplitl [h254]; · iexact h254
  isplitl [h257]; · iexact h257
  isplitl [h263]; · iexact h263
  iexact h268

/-- A device runs its kernel: it ends with its columns of the product, rounded to the wire's format against the greatest magnitude. -/
theorem body {Kt : PUnit → sProp 𝕄} :
    iprop(Ctx m K ∗ Ow c (dues.drop 0) ∗ (Toks c ∗ Creds c ∗ Posn c) ∗ (Cr c 22 false NR ∗ At c 22 0)
        ∗ (any c aM ∗ any c bM ∗ any c pM ∗ any c tM ∗ any c gM) ∗ any c oM ∗ mv m c xM fullShare (xv m c) ∗ mv m c wM fullShare (wv m c))
      ⊢ iprop((Ow c (dues.drop 19) ∗ (PosnEnd c ∗ At c 22 1) ∗ (any c aM ∗ any c bM ∗ any c pM ∗ any c tM ∗ any c gM)
            ∗ mv m c oM fullShare (k0_pay1 (gmax m c) (OUT m c)) ∗ mv m c xM fullShare (xv m c) ∗ mv m c wM fullShare (wv m c) -∗ |={Set.univ}=> Kt ⟨⟩)
          -∗ WP c (cc0_body (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14) Kt) := by
  rw [cc0_body_eq_skeleton]
  unfold cc0_body_skel
  iintro ⟨#HC, HO, ⟨HT, HR, HP⟩, ⟨HR', HP'⟩, ⟨Ha, Hb, Hp, htM, Hg⟩, Ho, hxMxvmc, Hw⟩ Hk
  ihave Ha' := (two_aM c).1 $$ Ha
  icases Ha' with ⟨ha0, ha1⟩
  ihave Hb' := (two_bM c).1 $$ Hb
  icases Hb' with ⟨hb0, hb1⟩
  ihave Hp' := (four_pM c).1 $$ Hp
  icases Hp' with ⟨hp0, hp1, hp2, hp3⟩
  ihave Hg' := (three_gM c).1 $$ Hg
  icases Hg' with ⟨hg0, hg1, hg2⟩
  ihave Ho' := (seven_oM c) $$ Ho
  icases Ho' with ⟨hoRowc, hoLortc, hoHirtc, hoLoopc, hoHiopc, hoLolfc, hoHilfc⟩
  ihave Hw' := (mv_halve m c wM fullShare (wv m c)).1 $$ Hw
  icases Hw' with ⟨Hwl, hwMrightwvmc⟩
  ihave Hw2 := (halves_wM m c fullShare.left).1 $$ Hwl
  icases Hw2 with ⟨hwLoleftwLmc, hwHileftwHmc⟩
  iapply (bind_step c)
  iapply (part21 m K c) $$ [HO HT HR HP ha0 ha1 hoLolfc hoHilfc hg2 hb0 hb1 hoLortc hoHirtc hg0 hoLoopc hoHiopc hg1 hoRowc hp0 hp1 hp2 hp3 htM hwLoleftwLmc hwHileftwHmc hxMxvmc hwMrightwvmc]
  · isplitr; · iexact HC
    isplitl [HO]; · iexact HO
    isplitl [HT]; · iexact HT
    isplitl [HR]; · iexact HR
    isplitl [HP]; · iexact HP
    isplitl [ha0 ha1 hoLolfc hoHilfc hg2 hb0 hb1 hoLortc hoHirtc hg0 hoLoopc hoHiopc hg1 hoRowc hp0 hp1 hp2 hp3 htM]
    · unfold Room
      isplitl [ha0]; · iexact ha0
      isplitl [ha1]; · iexact ha1
      isplitl [hoLolfc]; · iexact hoLolfc
      isplitl [hoHilfc]; · iexact hoHilfc
      isplitl [hg2]; · iexact hg2
      isplitl [hb0]; · iexact hb0
      isplitl [hb1]; · iexact hb1
      isplitl [hoLortc]; · iexact hoLortc
      isplitl [hoHirtc]; · iexact hoHirtc
      isplitl [hg0]; · iexact hg0
      isplitl [hoLoopc]; · iexact hoLoopc
      isplitl [hoHiopc]; · iexact hoHiopc
      isplitl [hg1]; · iexact hg1
      isplitl [hoRowc]; · iexact hoRowc
      isplitl [hp0]; · iexact hp0
      isplitl [hp1]; · iexact hp1
      isplitl [hp2]; · iexact hp2
      isplitl [hp3]; · iexact hp3
      iexact htM
    unfold Given
    isplitl [hwLoleftwLmc]; · iexact hwLoleftwLmc
    isplitl [hwHileftwHmc]; · iexact hwHileftwHmc
    isplitl [hxMxvmc]; · iexact hxMxvmc
    iexact hwMrightwvmc
  unfold Left
  iintro ⟨HO, HP, k0, k1, k2, k3, k4, k5, k6, k7, k8, k9, k10, k11, k12, k13, k14, k15, k16, k17, k18, k19, k20, k21, k22, k23, k24, k25⟩
  simp only [Prog.lift, Prog.bind_op, Prog.bind_ret, Prog.pure_eq_ret]
  iapply (wait_dma m K c 22 0 false (dues.drop 19) rfl (crR _ rfl) (by decide) (by decide) (iprop(mv m c (oHi (lf c)) fullShare (sent (prRH m (lf c))))) rfl) $$ [HR' HO HP']
  · isplitr; · iexact HC
    isplitl [HR']; · iexact HR'
    isplitl [HO]; · iexact HO
    iexact HP'
  iintro ⟨HO, HP', -, Hlast⟩
  ihave Hout := (gathered m c) $$ [k1 k21 k22 k23 k24 k25 Hlast]
  · isplitl [k1]; · iexact k1
    isplitl [k21]; · iexact k21
    isplitl [k22]; · iexact k22
    isplitl [k23]; · iexact k23
    isplitl [k24]; · iexact k24
    isplitl [k25]; · iexact k25
    iexact Hlast
  iapply (load_full m c oM z2 _ fullShare (OUT m c)) $$ [Hout]
  · iexact Hout
  iintro Hout
  iapply (load_full m c oM z2 _ fullShare (OUT m c)) $$ [Hout]
  · iexact Hout
  iintro Hout
  iapply (store_full m c oM z2 _ (OUT m c) (k0_pay1 (gmax m c) (OUT m c))) $$ [Hout]
  · iexact Hout
  iintro Hout
  iapply (ret_late c)
  iapply Hk
  isplitl [HO]; · iexact HO
  isplitl [HP HP']
  · isplitl [HP]; · iexact HP
    iexact HP'
  ihave Ka1 := (mv_halve m c a1 fullShare (wL m (op c))).2 $$ [k9 k4]
  · isplitl [k9]; · iexact k9
    iexact k4
  ihave Kb1 := (mv_halve m c b1 fullShare (wH m (op c))).2 $$ [k10 k5]
  · isplitl [k10]; · iexact k10
    iexact k5
  ihave Kt1 := (mv_halve m c tM fullShare.right (amaxB m c)).2 $$ [k16 k17]
  · isplitl [k16]; · iexact k16
    iexact k17
  ihave Kt2 := (mv_halve m c tM fullShare (amaxB m c)).2 $$ [k15 Kt1]
  · isplitl [k15]; · iexact k15
    iexact Kt1
  ihave Kw := (halves_wM m c fullShare.left).2 $$ [k2 k3]
  · isplitl [k2]; · iexact k2
    iexact k3
  ihave Kw' := (mv_halve m c wM fullShare (wv m c)).2 $$ [Kw k0]
  · isplitl [Kw]; · iexact Kw
    iexact k0
  ihave La1 := (mv_any m c a1 (wL m (op c))) $$ Ka1
  ihave Lb1 := (mv_any m c b1 (wH m (op c))) $$ Kb1
  ihave La0 := (mv_any m c a0 (wL m (rt c))) $$ k6
  ihave Lb0 := (mv_any m c b0 (wH m (lf c))) $$ k8
  ihave Lg0 := (mv_any m c g0 (amaxB m (rt c))) $$ k18
  ihave Lg1 := (mv_any m c g1 (amaxB m (op c))) $$ k19
  ihave Lg2 := (mv_any m c g2 (amaxB m (lf c))) $$ k20
  ihave Lt := (mv_any m c tM (amaxB m c)) $$ Kt2
  ihave Ja := (two_aM c).2 $$ [La0 La1]
  · isplitl [La0]; · iexact La0
    iexact La1
  ihave Jb := (two_bM c).2 $$ [Lb0 Lb1]
  · isplitl [Lb0]; · iexact Lb0
    iexact Lb1
  ihave Jp := (four_pM c).2 $$ [k13 k14 k11 k12]
  · isplitl [k13]; · iexact k13
    isplitl [k14]; · iexact k14
    isplitl [k11]; · iexact k11
    iexact k12
  ihave Jg := (three_gM c).2 $$ [Lg0 Lg1 Lg2]
  · isplitl [Lg0]; · iexact Lg0
    isplitl [Lg1]; · iexact Lg1
    iexact Lg2
  isplitl [Ja Jb Jp Lt Jg]
  · isplitl [Ja]; · iexact Ja
    isplitl [Jb]; · iexact Jb
    isplitl [Jp]; · iexact Jp
    isplitl [Lt]; · iexact Lt
    iexact Jg
  isplitl [Hout]; · iexact Hout
  isplitl [k7]; · iexact k7
  iexact Kw'

end Cert.RingGemm

end
-- ==== Proof.Deal.lean ====
/-
# What the launch hands out

The launch makes the cells of the protocol, one round position for each, and the payments' tokens. Each token
belongs to a cell of the device that is paid; it is handed to the device that pays. Beside them a device gets
the credits for its waits, which are what the others owe it.
-/
module

public import proofs.«01_k».proof.Proof.Body

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (K : Dev nD × Fin 29 → ℕ) (c : Dev nD)

/-! ## Semaphores -/

/-- The semaphores of the kernel's own scratch: all of the protocol's but the barrier. -/
abbrev osem : Fin 28 → SemLoc sig := fun j => kloc ((2 : Fin 29).succAbove j)

theorem ownSemFacts : Pipeline.OwnSemFacts cfg0.spec osem where
  isScoped := by decide +kernel
  inj := fun a b h => Fin.succAbove_right_injective (kloc_inj h)
  disj := by decide +kernel

theorem bigSep_29 (Φ : Fin 29 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28) :=
  bigSep_univ_eq_bigSepL [0, 1, 2, 3, 4, 5, 6, 7, 8, 9, 10, 11, 12, 13, 14, 15, 16, 17, 18, 19, 20, 21, 22, 23, 24, 25, 26, 27, 28] (by decide) (by decide) Φ
theorem bigSep_28 (Φ : Fin 28 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [0, 1, 2, 3, 4, 5, 6, 7, 8, 9, 10, 11, 12, 13, 14, 15, 16, 17, 18, 19, 20, 21, 22, 23, 24, 25, 26, 27] (by decide) (by decide) Φ

theorem unscopedSems0_eq : (unscopedSems0 c : sProp 𝕄) = semVal (cell c 2) 0 := by
  unfold unscopedSems0
  rw [bigSep_eq_bigSepL_of_eq [SemLoc.reg 2] (by decide) (by decide)]
  rfl

theorem ownSems0_eq : (Pipeline.ownSems0 (Ix := Bool) (Name := ℕ) (U := UU) (Lvl := ℕ) (Val := Elt F) (τ := τ) osem c : sProp 𝕄)
    = bigSep (Finset.univ.erase (2 : Fin 29)) fun k => semVal (cell c k) 0 := by
  have h : (Finset.univ.erase (2 : Fin 29)) = Finset.univ.map (Fin.succAboveEmb (2 : Fin 29)) := by decide +kernel
  rw [h, bigSep_map]
  rfl

/-- A device's semaphores, all at zero, are the scratch's and the barrier. -/
theorem sems0_eq : (iprop(Pipeline.ownSems0 (Ix := Bool) (Name := ℕ) (U := UU) (Lvl := ℕ) (Val := Elt F) (τ := τ) osem c ∗ unscopedSems0 c) : sProp 𝕄)
    ⊣⊢ (bigSep Finset.univ fun k : Fin 29 => semVal (cell c k) 0) := by
  rw [ownSems0_eq, unscopedSems0_eq, bigSep_univ_split (2 : Fin 29) (Φ := fun k : Fin 29 => (semVal (cell c k) 0 : sProp 𝕄))]
  exact sep_comm

/-! ## Cells and tokens -/

theorem cell_inj : Function.Injective (fun p : Dev nD × Fin 29 => cell p.1 p.2) := by
  rintro ⟨c, k⟩ ⟨c', k'⟩ h
  have h1 : c = c' := congrArg (fun g : GSem nD τ sig => g.1.1) h
  have h2 : k = k' := kloc_inj (congrArg Prod.snd h)
  rw [h1, h2]

def protoCells : Finset (GSem nD τ sig) := Finset.univ.map ⟨fun p : Dev nD × Fin 29 => cell p.1 p.2, cell_inj⟩

/-- The payments into a device's cells: the cell, the round, which of the two. -/
def mint : Fin 34 → Fin 29 × ℕ × Bool := ![(0, 0, false), (1, 0, false), (2, 0, false), (3, 0, false), (4, 0, false), (5, 0, false), (6, 0, false), (7, 0, false), (8, 0, false), (9, 0, false), (10, 0, false), (11, 0, false), (12, 0, false), (13, 0, false), (14, 0, false), (15, 0, false), (16, 0, false), (17, 0, false), (18, 0, false), (19, 0, false), (20, 0, false), (21, 0, false), (22, 0, false), (23, 0, false), (24, 0, false), (25, 0, false), (26, 0, false), (27, 0, false), (28, 0, false), (2, 0, true), (3, 1, false), (5, 1, false), (7, 1, false), (9, 1, false)]

theorem mint_inj : Function.Injective mint := by decide +kernel

def tokOf (p : Dev nD × Fin 34) : GSem nD τ sig × ℕ × Bool := (cell p.1 (mint p.2).1, (mint p.2).2.1, (mint p.2).2.2)

theorem tokOf_inj : Function.Injective tokOf := by
  rintro ⟨c, j⟩ ⟨c', j'⟩ h
  have h0 : cell c (mint j).1 = cell c' (mint j').1 := congrArg Prod.fst h
  have h1 : c = c' := congrArg (fun g : GSem nD τ sig => g.1.1) h0
  have h2 : (mint j).1 = (mint j').1 := kloc_inj (congrArg Prod.snd h0)
  have h3 : (mint j).2 = (mint j').2 := congrArg (fun x : GSem nD τ sig × ℕ × Bool => x.2) h
  have h4 : j = j' := mint_inj (Prod.ext h2 h3)
  rw [h1, h4]

def protoToks : Finset (GSem nD τ sig × ℕ × Bool) := Finset.univ.map ⟨tokOf, tokOf_inj⟩

def u₀ : UU := (initOf (Pipeline.cells cfgs cellOf_inj) (Pipeline.launchToks cfgs cellOf_inj), initOf protoCells protoToks)

/-- The tokens of a device's own cells. -/
def minted : sProp 𝕄 := iprop(Tok c 0 0 false ∗ Tok c 1 0 false ∗ Tok c 2 0 false ∗ Tok c 3 0 false ∗ Tok c 4 0 false ∗ Tok c 5 0 false ∗ Tok c 6 0 false ∗ Tok c 7 0 false ∗ Tok c 8 0 false ∗ Tok c 9 0 false ∗ Tok c 10 0 false ∗ Tok c 11 0 false ∗ Tok c 12 0 false ∗ Tok c 13 0 false ∗ Tok c 14 0 false ∗ Tok c 15 0 false ∗ Tok c 16 0 false ∗ Tok c 17 0 false ∗ Tok c 18 0 false ∗ Tok c 19 0 false ∗ Tok c 20 0 false ∗ Tok c 21 0 false ∗ Tok c 22 0 false ∗ Tok c 23 0 false ∗ Tok c 24 0 false ∗ Tok c 25 0 false ∗ Tok c 26 0 false ∗ Tok c 27 0 false ∗ Tok c 28 0 false ∗ Tok c 2 0 true ∗ Tok c 3 1 false ∗ Tok c 5 1 false ∗ Tok c 7 1 false ∗ Tok c 9 1 false)

theorem bigSep_34 (Φ : Fin 34 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33) :=
  bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide) Φ

/-- What the launch element deals device `c`. -/
def G (c : Dev nD) : sProp 𝕄 :=
  iprop((bigSep Finset.univ fun k : Fin 29 => roundState ER (Rd m) (cell c k) 0)
    ∗ (bigSep Finset.univ fun k : Fin 29 => iprop(At c k 0 ∗ Rch c k 0)) ∗ minted c)

theorem minted_eq : (minted c : sProp 𝕄) = bigSep Finset.univ fun j : Fin 34 => (dutyTok ER (tokOf (c, j)).1 (tokOf (c, j)).2.1 (tokOf (c, j)).2.2 : sProp 𝕄) := by
  rw [bigSep_34]
  rfl

theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 29 => Φ (cell c k) := by
    unfold protoCells; rw [bigSep_map, bigSep_univ_prod]; rfl
  have hT : bigSep protoToks (fun x => (dutyTok ER x.1 x.2.1 x.2.2 : sProp 𝕄)) = bigSep Finset.univ fun c : Dev nD => minted c := by
    unfold protoToks; rw [bigSep_map, bigSep_univ_prod]
    exact bigSep_congr fun c _ => (minted_eq c).symm
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G At; simp only [bigSep_sep']
  isplitl [Hst']; · iexact Hst'
  isplitl [Hat' Hr']
  · isplitl [Hat'] <;> iassumption
  iexact Htok'

/-! ## The global step -/

/-- What a device keeps for itself: its payments' tokens and its positions. -/
def mine (c : Dev nD) : sProp 𝕄 := iprop(Toks c ∗ Posn c ∗ At c 22 0)

/-- What everyone knows. -/
def know : sProp 𝕄 :=
  iprop((bigSep Finset.univ fun p : Dev nD × Fin 29 => cellInv ER (Rd m) (K p) (cell p.1 p.2))
    ∗ (bigSep Finset.univ fun p : Dev nD × Fin 29 => Rch p.1 p.2 0))

instance : BI.Persistent (know m K : sProp 𝕄) := by unfold know; infer_instance

def G' (c : Dev nD) : sProp 𝕄 := iprop(∃ K, know m K ∗ mine c)

theorem core_alloc :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k : Fin 29 => iprop(∃ κ : ℕ, cellInv ER (Rd m) κ (cell c k)))
          ∗ (bigSep Finset.univ fun k : Fin 29 => iprop(At c k 0 ∗ Rch c k 0)) ∗ minted c) := by
  unfold G
  iintro ⟨Hos, Hus, Hst, Hat, Htok⟩
  ihave Hv := (sems0_eq (F := F) c).1 $$ [Hos Hus]
  · isplitl [Hos] <;> iassumption
  imod (show iprop((bigSep Finset.univ fun k : Fin 29 => semVal (cell c k) 0) ∗ bigSep Finset.univ fun k : Fin 29 => roundState ER (Rd m) (cell c k) 0)
      ⊢ (|={Set.univ}=> bigSep Finset.univ fun k : Fin 29 => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem turned (e : Dev nD ≃ Dev nD) (k : Fin 29) (r : ℕ) (d : Bool) :
    (bigSep Finset.univ fun c : Dev nD => (Tok c k r d : sProp 𝕄)) ⊢ bigSep Finset.univ fun c : Dev nD => Tok (e c) k r d :=
  Entails.of_eq (bigSep_univ_equiv e fun c : Dev nD => (Tok c k r d : sProp 𝕄))

/-- The tokens handed around: each to the device that pays. -/
theorem toks_around : (bigSep Finset.univ fun c : Dev nD => (minted c : sProp 𝕄)) ⊢ bigSep Finset.univ fun c : Dev nD => Toks c := by
  unfold minted Toks
  simp only [bigSep_sep']
  iintro ⟨h0_0_false, h1_0_false, h2_0_false, h3_0_false, h4_0_false, h5_0_false, h6_0_false, h7_0_false, h8_0_false, h9_0_false, h10_0_false, h11_0_false, h12_0_false, h13_0_false, h14_0_false, h15_0_false, h16_0_false, h17_0_false, h18_0_false, h19_0_false, h20_0_false, h21_0_false, h22_0_false, h23_0_false, h24_0_false, h25_0_false, h26_0_false, h27_0_false, h28_0_false, h2_0_true, h3_1_false, h5_1_false, h7_1_false, h9_1_false⟩
  isplitl [h2_0_true]; · iapply (turned (turn 3) 2 0 true); iexact h2_0_true
  isplitl [h2_0_false]; · iapply (turned (turn 1) 2 0 false); iexact h2_0_false
  isplitl [h3_0_false]; · iexact h3_0_false
  isplitl [h5_0_false]; · iapply (turned (turn 1) 5 0 false); iexact h5_0_false
  isplitl [h7_0_false]; · iexact h7_0_false
  isplitl [h9_0_false]; · iapply (turned (turn 3) 9 0 false); iexact h9_0_false
  isplitl [h4_0_false]; · iexact h4_0_false
  isplitl [h6_0_false]; · iapply (turned (turn 1) 6 0 false); iexact h6_0_false
  isplitl [h8_0_false]; · iexact h8_0_false
  isplitl [h10_0_false]; · iapply (turned (turn 3) 10 0 false); iexact h10_0_false
  isplitl [h11_0_false]; · iexact h11_0_false
  isplitl [h17_0_false]; · iapply (turned (turn 3) 17 0 false); iexact h17_0_false
  isplitl [h12_0_false]; · iexact h12_0_false
  isplitl [h22_0_false]; · iapply (turned (turn 1) 22 0 false); iexact h22_0_false
  isplitl [h0_0_false]; · iapply (turned (turn 3) 0 0 false); iexact h0_0_false
  isplitl [h1_0_false]; · iapply (turned (turn 1) 1 0 false); iexact h1_0_false
  isplitl [h3_1_false]; · iexact h3_1_false
  isplitl [h5_1_false]; · iapply (turned (turn 1) 5 1 false); iexact h5_1_false
  isplitl [h7_1_false]; · iexact h7_1_false
  isplitl [h9_1_false]; · iapply (turned (turn 3) 9 1 false); iexact h9_1_false
  isplitl [h13_0_false]; · iexact h13_0_false
  isplitl [h19_0_false]; · iapply (turned (turn 2) 19 0 false); iexact h19_0_false
  isplitl [h14_0_false]; · iexact h14_0_false
  isplitl [h20_0_false]; · iapply (turned (turn 2) 20 0 false); iexact h20_0_false
  isplitl [h15_0_false]; · iexact h15_0_false
  isplitl [h21_0_false]; · iapply (turned (turn 1) 21 0 false); iexact h21_0_false
  isplitl [h16_0_false]; · iexact h16_0_false
  isplitl [h18_0_false]; · iapply (turned (turn 3) 18 0 false); iexact h18_0_false
  isplitl [h25_0_false]; · iexact h25_0_false
  isplitl [h28_0_false]; · iapply (turned (turn 1) 28 0 false); iexact h28_0_false
  isplitl [h24_0_false]; · iexact h24_0_false
  isplitl [h27_0_false]; · iapply (turned (turn 2) 27 0 false); iexact h27_0_false
  isplitl [h23_0_false]; · iexact h23_0_false
  iapply (turned (turn 3) 26 0 false); iexact h26_0_false

theorem posn_all : (bigSep Finset.univ fun k : Fin 29 => (At c k 0 : sProp 𝕄)) ⊢ iprop(Posn c ∗ At c 22 0) := by
  rw [bigSep_29]
  unfold Posn
  iintro ⟨h0, h1, h2, h3, h4, h5, h6, h7, h8, h9, h10, h11, h12, h13, h14, h15, h16, h17, h18, h19, h20, h21, h22, h23, h24, h25, h26, h27, h28⟩
  isplitr [h22]
  · isplitl [h0]; · iexact h0
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    isplitl [h11]; · iexact h11
    isplitl [h12]; · iexact h12
    isplitl [h13]; · iexact h13
    isplitl [h14]; · iexact h14
    isplitl [h15]; · iexact h15
    isplitl [h16]; · iexact h16
    isplitl [h17]; · iexact h17
    isplitl [h18]; · iexact h18
    isplitl [h19]; · iexact h19
    isplitl [h20]; · iexact h20
    isplitl [h21]; · iexact h21
    isplitl [h23]; · iexact h23
    isplitl [h24]; · iexact h24
    isplitl [h25]; · iexact h25
    isplitl [h26]; · iexact h26
    isplitl [h27]; · iexact h27
    iexact h28
  iexact h22

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem keep (c : Dev nD) : iprop(know m K ∗ mine c) ⊢ G' m c := by
  unfold G'
  iintro H
  iexists K
  iexact H

theorem regroup :
    (bigSep Finset.univ fun c : Dev nD => iprop((bigSep Finset.univ fun k : Fin 29 => iprop(∃ κ : ℕ, cellInv ER (Rd m) κ (cell c k)))
          ∗ (bigSep Finset.univ fun k : Fin 29 => iprop(At c k 0 ∗ Rch c k 0)) ∗ minted c) : sProp 𝕄)
      ⊢ bigSep Finset.univ (G' m) := by
  rw [bigSep_sep', bigSep_sep', ← bigSep_univ_prod (fun p : Dev nD × Fin 29 => iprop(∃ κ : ℕ, cellInv ER (Rd m) κ (cell p.1 p.2))),
    bigSep_congr (s := Finset.univ) (fun (c : Dev nD) _ => bigSep_sep' Finset.univ (fun k : Fin 29 => (At c k 0 : sProp 𝕄)) (fun k => Rch c k 0)),
    bigSep_sep', ← bigSep_univ_prod (fun p : Dev nD × Fin 29 => (Rch p.1 p.2 0 : sProp 𝕄))]
  iintro ⟨HI, ⟨Hat, #HR⟩, Htok⟩
  ihave HK := (BI.bigSep_exists_pi Finset.univ (fun (p : Dev nD × Fin 29) (κ : ℕ) => (cellInv ER (Rd m) κ (cell p.1 p.2) : sProp 𝕄))) $$ HI
  icases HK with ⟨%K, #HI⟩
  ihave Htk := (toks_around (F := F)) $$ Htok
  iapply (with_persistent (R := know m K) fun c _ => keep m K c)
  isplitr
  · unfold know; isplitl; · iexact HI
    iexact HR
  · unfold mine
    iapply ((Entails.of_eq (bigSep_sep' Finset.univ (fun c : Dev nD => (Toks c : sProp 𝕄)) (fun c : Dev nD => bigSep Finset.univ fun k : Fin 29 => (At c k 0 : sProp 𝕄))).symm).trans
      (bigSep_mono fun c _ => sep_mono_right (posn_all c)))
    isplitl [Htk]; · iexact Htk
    iexact Hat

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe a cell: the number of payments of that kind, whatever the device. -/
theorem owed_sum (k : Fin 29) (u : Bool) (l : List Due) :
    (∑ d : Dev nD, owed d l (cell c k) u) = l.countP (fun p => decide (p.k = k ∧ p.ix = u)) * amt k.val := by
  induction l with
  | nil => simp [owed]
  | cons p l ih =>
    have h1 : ∀ d : Dev nD, owed d (p :: l) (cell c k) u = owed d l (cell c k) u + (if cell c k = cell (turn p.dir d) p.k ∧ u = p.ix then amt p.k.val else 0) := by
      intro d
      show (owed d l + tallyAt (cell (fwd p.dir d) p.k) p.ix (amt p.k.val)) (cell c k) u = _
      rw [Pi.add_apply, Finsupp.add_apply, tallyAt_apply, turn_apply]
    have h2 : (∑ d : Dev nD, (if cell c k = cell (turn p.dir d) p.k ∧ u = p.ix then amt p.k.val else 0)) = if p.k = k ∧ p.ix = u then amt k.val else 0 := by
      rw [Equiv.sum_comp (turn p.dir) (fun d : Dev nD => if cell c k = cell d p.k ∧ u = p.ix then amt p.k.val else 0)]
      by_cases hp : p.k = k ∧ p.ix = u
      · obtain ⟨rfl, rfl⟩ := hp
        rw [if_pos ⟨rfl, rfl⟩, Finset.sum_congr rfl (g := fun d : Dev nD => if d = c then amt p.k.val else 0), Finset.sum_ite_eq' Finset.univ c fun _ => amt p.k.val,
          if_pos (Finset.mem_univ _)]
        intro d _
        by_cases hd : d = c
        · rw [hd, if_pos ⟨rfl, rfl⟩, if_pos rfl]
        · rw [if_neg hd, if_neg]
          rintro ⟨h, -⟩
          exact hd (congrArg (fun g : GSem nD τ sig => g.1.1) h).symm
      · rw [if_neg hp]
        refine Finset.sum_eq_zero fun d _ => if_neg ?_
        rintro ⟨h, h'⟩
        exact hp ⟨(kloc_inj (congrArg Prod.snd h)).symm, h'.symm⟩
    rw [Finset.sum_congr rfl fun d _ => h1 d, Finset.sum_add_distrib, ih, h2, List.countP_cons, Nat.add_mul]
    congr 1
    by_cases hp : p.k = k ∧ p.ix = u
    · simp [hp]
    · simp [hp]

abbrev O₀ (c : Dev nD) : CellTallies nD τ sig Bool := owed c dues

/-- The credit of a cell, its first and its second round. -/
theorem credit (k : Fin 29) (a b : ℕ) (ha : dues.countP (fun p => decide (p.k = k ∧ p.ix = false)) = a) (hb : dues.countP (fun p => decide (p.k = k ∧ p.ix = true)) = b) :
    (tallyOn (cell c k) (launchCredit (Pipeline.owing O₀) 0 (cell c k)) : CellTallies nD τ sig Bool) = tallyAt (cell c k) false (a * amt k.val) + tallyAt (cell c k) true (b * amt k.val) := by
  unfold tallyAt
  rw [← tallyOn_add]
  refine congrArg _ (Finsupp.ext fun u => ?_)
  rw [Pipeline.launchCredit_owing, owed_sum, Finsupp.add_apply]
  cases u
  · rw [Finsupp.single_eq_same, Finsupp.single_eq_of_ne (by decide), ha, add_zero]
  · rw [Finsupp.single_eq_same, Finsupp.single_eq_of_ne (by decide), hb, zero_add]

theorem cred_one (k : Fin 29) (a n : ℕ) (ha : dues.countP (fun p => decide (p.k = k ∧ p.ix = false)) = a) (hn : a * amt k.val = n) :
    (cred (tallyOn (cell c k) (launchCredit (Pipeline.owing O₀) 0 (cell c k))) : sProp 𝕄) ⊢ Cr c k false n := by
  subst hn
  rw [credit c k a _ ha rfl]
  exact (cred_add _ _).1.trans (Laws.sep_and.trans and_elimL)

theorem cred_two (k : Fin 29) (n : ℕ) (ha : dues.countP (fun p => decide (p.k = k ∧ p.ix = false)) = 1) (hb : dues.countP (fun p => decide (p.k = k ∧ p.ix = true)) = 1) (hn : amt k.val = n) :
    (cred (tallyOn (cell c k) (launchCredit (Pipeline.owing O₀) 0 (cell c k))) : sProp 𝕄) ⊢ iprop(Cr c k false n ∗ Cr c k true n) := by
  subst hn
  rw [credit c k 1 1 ha hb, Nat.one_mul]
  exact (cred_add _ _).1

theorem creds : (Pipeline.launchCred O₀ c : sProp 𝕄) ⊢ iprop(Creds c ∗ Cr c 22 false NR) := by
  have h0 : (Pipeline.launchCred O₀ c : sProp 𝕄) ⊢ bigSep Finset.univ fun k : Fin 29 => cred (tallyOn (cell c k) (launchCredit (Pipeline.owing O₀) 0 (cell c k))) := by
    unfold Pipeline.launchCred
    exact (bigSep_subset (Finset.subset_univ (Finset.univ.map ⟨kloc, kloc_inj⟩))).trans
      (Entails.of_eq (bigSep_map (s := Finset.univ) ⟨kloc, kloc_inj⟩))
  refine h0.trans ?_
  rw [bigSep_29]
  unfold Creds
  iintro ⟨h0, h1, h2, h3, h4, h5, h6, h7, h8, h9, h10, h11, h12, h13, h14, h15, h16, h17, h18, h19, h20, h21, h22, h23, h24, h25, h26, h27, h28⟩
  ihave H5 := (cred_two c 5 NW (by decide) (by decide) rfl) $$ h5
  icases H5 with ⟨h5, g5⟩
  ihave H9 := (cred_two c 9 NW (by decide) (by decide) rfl) $$ h9
  icases H9 with ⟨h9, g9⟩
  isplitr [h22]
  · isplitl [h2]; · iapply (cred_one c 2 2 2 (by decide) rfl); iexact h2
    isplitl [h5]; · iexact h5
    isplitl [h9]; · iexact h9
    isplitl [h6]; · iapply (cred_one c 6 1 NW (by decide) (Nat.one_mul _)); iexact h6
    isplitl [h10]; · iapply (cred_one c 10 1 NW (by decide) (Nat.one_mul _)); iexact h10
    isplitl [h0]; · iapply (cred_one c 0 1 1 (by decide) (Nat.one_mul _)); iexact h0
    isplitl [h1]; · iapply (cred_one c 1 1 1 (by decide) (Nat.one_mul _)); iexact h1
    isplitl [g5]; · iexact g5
    isplitl [g9]; · iexact g9
    isplitl [h28]; · iapply (cred_one c 28 1 NA (by decide) (Nat.one_mul _)); iexact h28
    isplitl [h27]; · iapply (cred_one c 27 1 NA (by decide) (Nat.one_mul _)); iexact h27
    isplitl [h26]; · iapply (cred_one c 26 1 NA (by decide) (Nat.one_mul _)); iexact h26
    isplitl [h17]; · iapply (cred_one c 17 1 NR (by decide) (Nat.one_mul _)); iexact h17
    isplitl [h18]; · iapply (cred_one c 18 1 NR (by decide) (Nat.one_mul _)); iexact h18
    isplitl [h19]; · iapply (cred_one c 19 1 NR (by decide) (Nat.one_mul _)); iexact h19
    isplitl [h20]; · iapply (cred_one c 20 1 NR (by decide) (Nat.one_mul _)); iexact h20
    iapply (cred_one c 21 1 NR (by decide) (Nat.one_mul _)); iexact h21
  iapply (cred_one c 22 1 NR (by decide) (Nat.one_mul _)); iexact h22

/-! ## Closing the cells -/

theorem close (k : Fin 29) (R : ℕ) (hR : ∀ r, R ≤ r → (Rd (F := F) m).duties (cell c k) r = ∅) :
    iprop(Ctx m K ∗ At c k R) ⊢ |={Set.univ}=> semVal (cell c k) 0 := by
  have h := Rounds.cell_close ER (Rd m) (Set.mem_univ (K (c, k))) (fun h => h) hR
  unfold At
  exact (sep_mono_left (ctx_inv m K c k)).trans h

/-- At the end every cell is closed and its semaphore back at zero. -/
theorem close_all : iprop(Ctx m K ∗ PosnEnd c ∗ At c 22 1) ⊢ |={Set.univ}=> (bigSep Finset.univ fun k : Fin 29 => semVal (cell c k) 0) := by
  rw [bigSep_29]
  unfold PosnEnd
  iintro ⟨#HC, ⟨h0, h1, h2, h3, h4, h5, h6, h7, h8, h9, h10, h11, h12, h13, h14, h15, h16, h17, h18, h19, h20, h21, h23, h24, h25, h26, h27, h28⟩, h22⟩
  imod (close m K c 0 1 (duties_end1 m c 0 (by decide))) $$ [h0] with h0
  · isplitr; · iexact HC
    iexact h0
  imod (close m K c 1 1 (duties_end1 m c 1 (by decide))) $$ [h1] with h1
  · isplitr; · iexact HC
    iexact h1
  imod (close m K c 2 1 (duties_end1 m c 2 (by decide))) $$ [h2] with h2
  · isplitr; · iexact HC
    iexact h2
  imod (close m K c 3 2 (duties_end m c 3)) $$ [h3] with h3
  · isplitr; · iexact HC
    iexact h3
  imod (close m K c 4 1 (duties_end1 m c 4 (by decide))) $$ [h4] with h4
  · isplitr; · iexact HC
    iexact h4
  imod (close m K c 5 2 (duties_end m c 5)) $$ [h5] with h5
  · isplitr; · iexact HC
    iexact h5
  imod (close m K c 6 1 (duties_end1 m c 6 (by decide))) $$ [h6] with h6
  · isplitr; · iexact HC
    iexact h6
  imod (close m K c 7 2 (duties_end m c 7)) $$ [h7] with h7
  · isplitr; · iexact HC
    iexact h7
  imod (close m K c 8 1 (duties_end1 m c 8 (by decide))) $$ [h8] with h8
  · isplitr; · iexact HC
    iexact h8
  imod (close m K c 9 2 (duties_end m c 9)) $$ [h9] with h9
  · isplitr; · iexact HC
    iexact h9
  imod (close m K c 10 1 (duties_end1 m c 10 (by decide))) $$ [h10] with h10
  · isplitr; · iexact HC
    iexact h10
  imod (close m K c 11 1 (duties_end1 m c 11 (by decide))) $$ [h11] with h11
  · isplitr; · iexact HC
    iexact h11
  imod (close m K c 12 1 (duties_end1 m c 12 (by decide))) $$ [h12] with h12
  · isplitr; · iexact HC
    iexact h12
  imod (close m K c 13 1 (duties_end1 m c 13 (by decide))) $$ [h13] with h13
  · isplitr; · iexact HC
    iexact h13
  imod (close m K c 14 1 (duties_end1 m c 14 (by decide))) $$ [h14] with h14
  · isplitr; · iexact HC
    iexact h14
  imod (close m K c 15 1 (duties_end1 m c 15 (by decide))) $$ [h15] with h15
  · isplitr; · iexact HC
    iexact h15
  imod (close m K c 16 1 (duties_end1 m c 16 (by decide))) $$ [h16] with h16
  · isplitr; · iexact HC
    iexact h16
  imod (close m K c 17 1 (duties_end1 m c 17 (by decide))) $$ [h17] with h17
  · isplitr; · iexact HC
    iexact h17
  imod (close m K c 18 1 (duties_end1 m c 18 (by decide))) $$ [h18] with h18
  · isplitr; · iexact HC
    iexact h18
  imod (close m K c 19 1 (duties_end1 m c 19 (by decide))) $$ [h19] with h19
  · isplitr; · iexact HC
    iexact h19
  imod (close m K c 20 1 (duties_end1 m c 20 (by decide))) $$ [h20] with h20
  · isplitr; · iexact HC
    iexact h20
  imod (close m K c 21 1 (duties_end1 m c 21 (by decide))) $$ [h21] with h21
  · isplitr; · iexact HC
    iexact h21
  imod (close m K c 22 1 (duties_end1 m c 22 (by decide))) $$ [h22] with h22
  · isplitr; · iexact HC
    iexact h22
  imod (close m K c 23 1 (duties_end1 m c 23 (by decide))) $$ [h23] with h23
  · isplitr; · iexact HC
    iexact h23
  imod (close m K c 24 1 (duties_end1 m c 24 (by decide))) $$ [h24] with h24
  · isplitr; · iexact HC
    iexact h24
  imod (close m K c 25 1 (duties_end1 m c 25 (by decide))) $$ [h25] with h25
  · isplitr; · iexact HC
    iexact h25
  imod (close m K c 26 1 (duties_end1 m c 26 (by decide))) $$ [h26] with h26
  · isplitr; · iexact HC
    iexact h26
  imod (close m K c 27 1 (duties_end1 m c 27 (by decide))) $$ [h27] with h27
  · isplitr; · iexact HC
    iexact h27
  imod (close m K c 28 1 (duties_end1 m c 28 (by decide))) $$ [h28] with h28
  · isplitr; · iexact HC
    iexact h28
  imodintro
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  isplitl [h9]; · iexact h9
  isplitl [h10]; · iexact h10
  isplitl [h11]; · iexact h11
  isplitl [h12]; · iexact h12
  isplitl [h13]; · iexact h13
  isplitl [h14]; · iexact h14
  isplitl [h15]; · iexact h15
  isplitl [h16]; · iexact h16
  isplitl [h17]; · iexact h17
  isplitl [h18]; · iexact h18
  isplitl [h19]; · iexact h19
  isplitl [h20]; · iexact h20
  isplitl [h21]; · iexact h21
  isplitl [h22]; · iexact h22
  isplitl [h23]; · iexact h23
  isplitl [h24]; · iexact h24
  isplitl [h25]; · iexact h25
  isplitl [h26]; · iexact h26
  isplitl [h27]; · iexact h27
  iexact h28

end Cert.RingGemm

end
-- ==== Proof.Launch.lean ====
/-
# The run

The launch's obligations: the staging of the two inputs and of the result, the body on each device, and the
hand-out of the protocol. From them every execution ends, with the result at its computed contents, the
inputs unchanged and every semaphore at zero.
-/
module

public import proofs.«01_k».proof.Proof.Deal
public import Idealize.ShloMosaic.Lib.Pipeline.CollectiveSegs

@[expose] public section

noncomputable section

namespace Cert.RingGemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Bool (Elt F) ℕ UU ℕ

variable (m : (ℓ : Loc nD τ sig) → Buf (Elt F) ℓ) (ρ : Dev nD → PrngReg) (K : Dev nD × Fin 29 → ℕ) (c : Dev nD)

/-- The memory the launch starts from. -/
abbrev s₀ : MemSt nD τ sig (Elt F) := ⟨m, fun _ => 0, ρ⟩

/-- The result a device stages. -/
def outV (c : Dev nD) : S4096x512.Idx → Elt F .f32 := k0_pay1 (gmax m c) (OUT m c)

/-- The scratch buffers, their contents arbitrary. -/
def scr (c : Dev nD) : sProp 𝕄 := iprop(any c aM ∗ any c bM ∗ any c pM ∗ any c tM ∗ any c gM)

def start (c : Dev nD) : sProp 𝕄 := iprop(G' m c ∗ (Creds c ∗ Cr c 22 false NR) ∗ levAts L lv)
def Φ₀ (c : Dev nD) : sProp 𝕄 := iprop(start m c ∗ scr c)
def Φ₁ (c : Dev nD) : sProp 𝕄 := iprop(scr c ∗ bigSep Finset.univ fun k : Fin 29 => semVal (cell c k) 0)

def dats (_ : Fin 1) (c : Dev nD) : Pipeline.Dat τ (Elt F) Bool ℕ UU ℕ cfg0 c where
  A w := (s₀ m ρ).mem ((cfg0.win w).arr.view.loc (c : Thread nD τ))
  after w _ := match w with
    | ⟨0, _⟩ => xv m c
    | ⟨1, _⟩ => wv m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt false t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt false t₀.succ ∗ stg c cc0_stg0_0 (xv m c) ∗ stg c cc0_stg1_0 (wv m c) ∗ stg c cc0_stg2_0 (outV m c))

theorem x_win (f : Buf (Elt F) ((c : Thread nD τ).loc cc0_stg0_0)) : (((c : Thread nD τ).loc cc0_stg0_0) ↦{fullShare} f : sProp 𝕄) = mv m c xM fullShare f := by
  rw [← mv_of_read m c xM fullShare f f rfl, show xM.view.set = Finset.univ from View.set_whole _]
theorem w_win (f : Buf (Elt F) ((c : Thread nD τ).loc cc0_stg1_0)) : (((c : Thread nD τ).loc cc0_stg1_0) ↦{fullShare} f : sProp 𝕄) = mv m c wM fullShare f := by
  rw [← mv_of_read m c wM fullShare f f rfl, show wM.view.set = Finset.univ from View.set_whole _]
theorem o_win (f : Buf (Elt F) ((c : Thread nD τ).loc cc0_stg2_0)) : (((c : Thread nD τ).loc cc0_stg2_0) ↦{fullShare} f : sProp 𝕄) = mv m c oM fullShare f := by
  rw [← mv_of_read m c oM fullShare f f rfl, show oM.view.set = Finset.univ from View.set_whole _]

theorem sound (c : Dev nD) :
    bodyPre m ρ c ⊢ WP c (cc0_body (F := F) xM (Memref.isWhole_whole _) wM (Memref.isWhole_whole _) oM (Memref.isWhole_whole _) aM (Memref.isWhole_whole _) bM (Memref.isWhole_whole _) pM (Memref.isWhole_whole _) cc0_scratch3 cc0_scratch4 cc0_scratch5 cc0_scratch6 cc0_scratch7 cc0_scratch8 cc0_scratch9 cc0_scratch10 tM (Memref.isWhole_whole _) gM (Memref.isWhole_whole _) cc0_scratch13 cc0_scratch14) (fun _ => bodyPost m ρ c) := by
  unfold bodyPre Φ₀ start G'
  iintro ⟨⟨⟨⟨%K, #HK, Hmine⟩, ⟨Hcr, Hcr'⟩, #Hlev⟩, Hscr⟩, Ho, ⟨%d0, %g0, %hg0, Hx⟩, ⟨%d1, %g1, %hg1, Hw⟩, ⟨%d2, %g2, %hg2, Hout⟩⟩
  have hx : g0 = xv m c := by rw [hg0]; unfold Pipeline.Dat.before; rw [if_pos (fetch_0 t₀)]; rfl
  have hw : g1 = wv m c := by rw [hg1]; unfold Pipeline.Dat.before; rw [if_pos (fetch_1 t₀)]; rfl
  subst hx hw
  unfold Pipeline.Dat.owesAt Pipeline.owesWithin
  icases Ho with ⟨%W, %hW, HO⟩
  rw [show (dats m ρ 0 c).owed t₀.castSucc = O₀ c from rfl]
  ihave Hx' := (Entails.of_eq (x_win m c (xv m c))) $$ Hx
  ihave Hw' := (Entails.of_eq (w_win m c (wv m c))) $$ Hw
  ihave Ho1 := (Entails.of_eq (o_win m c g2)) $$ Hout
  ihave Ho2 := (mv_any m c oM g2) $$ Ho1
  unfold mine scr
  icases Hmine with ⟨HT, HP, HP'⟩
  ihave #HC := (show iprop(know m K ∗ levAts L lv) ⊢ Ctx m K from by
    unfold know Ctx
    iintro ⟨⟨H1, H2⟩, H3⟩
    isplitl [H1]; · iexact H1
    isplitl [H2] <;> iassumption) $$ [HK Hlev]
  · isplitr; · iexact HK
    iexact Hlev
  iapply (body m K c) $$ [HO HT Hcr HP Hcr' HP' Hscr Ho2 Hx' Hw']
  · isplitr; · iexact HC
    isplitl [HO]; · unfold Ow; iexists W; iexact HO
    isplitl [HT Hcr HP]
    · isplitl [HT]; · iexact HT
      isplitl [Hcr] <;> iassumption
    isplitl [Hcr' HP']
    · isplitl [Hcr'] <;> iassumption
    isplitl [Hscr]; · iexact Hscr
    isplitl [Ho2]; · iexact Ho2
    isplitl [Hx'] <;> iassumption
  iintro ⟨HO, ⟨HP, HP'⟩, Hscr, Hout, Hx, Hw⟩
  imod (close_all m K c) $$ [HP HP'] with Hz
  · isplitr; · iexact HC
    isplitl [HP] <;> iassumption
  imodintro
  unfold bodyPost Φ₁ scr Pipeline.Dat.owesAt Pipeline.owesWithin Ow
  rw [show (dats m ρ 0 c).owed t₀.succ = 0 from rfl, show owed c (dues.drop 19) = 0 from rfl]
  rw [show k0_pay1 (gmax m c) (OUT m c) = outV m c from rfl]
  icases HO with ⟨%W', HO⟩
  isplitl [Hscr Hz]
  · isplitl [Hscr] <;> iassumption
  isplitl [HO]
  · iexists W'
    isplitr; · ipureintro; exact fun _ _ => Or.inl trivial
    iexact HO
  ihave Hx' := (Entails.of_eq (x_win m c (xv m c)).symm) $$ Hx
  ihave Hw' := (Entails.of_eq (w_win m c (wv m c)).symm) $$ Hw
  ihave Ho' := (Entails.of_eq (o_win m c (outV m c)).symm) $$ Hout
  isplitl [Hx']
  · iexists _; isplitr; · (ipureintro; rfl)
    iexact Hx'
  isplitl [Hw']
  · iexists _; isplitr; · (ipureintro; rfl)
    iexact Hw'
  iexists _; isplitr; · (ipureintro; rfl)
  iexact Ho'

set_option maxRecDepth 20000 in
/-- The body's obligation on device `c`. -/
theorem body_obligation (c : Dev nD) : Pipeline.BodyObligation (dats (F := F) m ρ 0 c) (defs₀ (F := F)) 𝒱₀ false Set.univ := fun t => by
  rw [fin_N t]
  rw [bigSep_W, bigSep_W]
  simp only [owns_whole_eq]
  exact sound m ρ c

/-! ## The launch's side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scr_eq (c : Dev nD) : (scr c : sProp 𝕄) = Pipeline.scopedRest cfg0.spec c := by
  rw [scopedRest0_eq]
  unfold scr any
  rw [show aM.view.set = Finset.univ from View.set_whole _, show bM.view.set = Finset.univ from View.set_whole _, show pM.view.set = Finset.univ from View.set_whole _,
    show tM.view.set = Finset.univ from View.set_whole _, show gM.view.set = Finset.univ from View.set_whole _]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scr_eq]
  unfold Φ₁
  iintro ⟨Hr, Hz⟩
  ihave Hz' := (sems0_eq (F := F) c).2 $$ Hz
  icases Hz' with ⟨H1, H2⟩
  isplitl [H2]; · iexact H2
  isplitl [H1] <;> iassumption

theorem stage_low (c : Dev nD) (sm : SemLoc sig) (h : idx sm = 99) (O : CellTallies nD τ sig Bool) (hO : O = O₀ c ∨ O = 0) :
    (levAts L lv : sProp 𝕄) ⊢ MayWait (c : Thread nD τ) sm false O := by
  rcases hO with rfl | rfl
  · exact mayWait c sm false dues (by rw [h]; decide)
  · rw [MayWait_zero]; iintro -; iempintro

theorem waits (c : Dev nD) : (levAts L lv : sProp 𝕄) ⊢ Pipeline.cellsWaits cfgs (dats m ρ) false 0 c :=
  Pipeline.cellsWaits_intro cfgs (dats m ρ) false 0 c fun w s t =>
    stage_low c _ (by fin_cases w <;> fin_cases s <;> decide) _ (by
      rcases t with ⟨_ | _, ht⟩
      · exact Or.inl rfl
      · exact Or.inr rfl)

/-! ## Every run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all semaphores at zero, every fair run ends; each array holds its computed contents and
    every semaphore is back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

end Cert.RingGemm

end
-- ==== Proof.SameText.lean ====
/-
# One text, two names

No operation of the kernel was replaced, so the program read over the extended reals and the program read over the
machine's floats are the same text under two names. Here the two names are identified, for any reading of floats.
-/
module

public import proofs.«01_k».proof.Proof.Launch
public import proofs.«01_k».proof.Proof.Gen.Kernel
public import proofs.«01_k».proof.Proof.Gen.Kernel.Skeleton

@[expose] public section

namespace Cert.RingGemm

open Idealize.ShloMosaic Idealize.SL.Sem

variable {F : FTy → Type} [FloatOps F]

set_option maxRecDepth 100000 in
set_option maxHeartbeats 4000000 in
/-- The bodies are one. -/
theorem body_same : Cert.Kernel.cc0_body (F := F) = Cert.KernelIdeal.cc0_body (F := F) := rfl

set_option maxRecDepth 100000 in
set_option maxHeartbeats 4000000 in
/-- The kernels' tables are one. -/
theorem table_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    show Cert.Kernel.cc0_body (F := F) _ _ _ _ _ _ _ _ _ _ _ _ _ _ _ _ _ _ _ _ _ _ _ _ _ _ = _
    rw [body_same]
  | ⟨_ + 1, h⟩, _ => exact absurd h (Nat.not_lt.2 (Nat.le_add_left _ _))

set_option maxRecDepth 100000 in
set_option maxHeartbeats 4000000 in
/-- The programs' tables are one. -/
theorem defs_same : Cert.Kernel.defs (F := F) = Cert.KernelIdeal.defs (F := F) := by
  unfold Cert.Kernel.defs Cert.KernelIdeal.defs
  rw [table_same]; rfl

/-- The programs are one. -/
theorem main_same : Cert.Kernel.main (F := F) = Cert.KernelIdeal.main (F := F) := rfl

variable (m : (ℓ : Loc Cert.Kernel.nD Cert.Kernel.τ Cert.Kernel.sig) → Buf (Elt F) ℓ) (ρ : Dev Cert.Kernel.nD → PrngReg)

/-- Every run of the kernel under its first name ends, the arguments kept and the semaphores at zero. -/
theorem run_kernel : θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact (θ_run (Cert.KernelIdeal.defs (F := F)) _ _).mono
    (fun _ h => ⟨fun c => ⟨(h.1 c (0 : Fin 3)).trans (final_x (F := F) m ρ c), (h.1 c (1 : Fin 3)).trans (final_w (F := F) m ρ c)⟩, h.2⟩)
    (run_main (F := F) m ρ)

end Cert.RingGemm
-- ==== Proof.Numbers.lean ====
/-
# Magnitudes, scales and products over the extended reals

The mathematics of one block, free of the kernel: a magnitude, the scale made from a largest magnitude, why clipping a
scaled entry changes nothing, the product of two matrices, and what a maximum over a block of magnitudes bounds.
-/
module

public import Idealize.ShloMosaic.PureOps.Ideal.Laws
public import Idealize.ShloMosaic.Lib.Pipeline.Value
public import Idealize.ShloMosaic.Lib.Pointwise.Index
public import Idealize.ShloMosaic.Lib.Pointwise.Contract

@[expose] public section

noncomputable section

namespace Cert.RingGemm

open Idealize.ShloMosaic

/-- An extended real's magnitude. -/
def mag (y : EReal) : EReal := max y (-y)

/-- The literal 448. -/
theorem lit_448 : Ideal.ofBits .f32 0x43E00000#32 = ((448 : ℝ) : EReal) := by
  simp [Ideal.ofBits, Ideal.ieee]
  rw [← EReal.coe_mul]
  norm_num
/-- The literal −448. -/
theorem lit_neg448 : Ideal.ofBits .f32 0xC3E00000#32 = ((-448 : ℝ) : EReal) := by
  simp [Ideal.ofBits, Ideal.ieee]
  rw [← EReal.coe_mul]
  norm_num
/-- The literal from which maxima start. -/
theorem lit_bot : Ideal.ofBits .f32 0xFF800000#32 = (⊥ : EReal) := by
  simp [Ideal.ofBits, Ideal.ieee]

/-- The scale of a largest magnitude. -/
def scale (g : EReal) : EReal := Ideal.div g ((448 : ℝ) : EReal)

/-- An entry divided by the scale and multiplied with it again. -/
def scaled (g y : EReal) : EReal := Ideal.div y (scale g) * scale g

/-- The same with the quotient clipped at ±448. -/
def clipped (g y : EReal) : EReal := min ((448 : ℝ) : EReal) (max ((-448 : ℝ) : EReal) (Ideal.div y (scale g))) * scale g

/-- The scale of a real magnitude. -/
theorem scale_real (g : ℝ) : scale (g : EReal) = ((g / 448 : ℝ) : EReal) := by
  unfold scale Ideal.div
  rw [if_neg (by norm_num), ← EReal.coe_inv, ← EReal.coe_mul]; rfl

/-- The scale of an infinite magnitude. -/
theorem scale_top : scale ⊤ = ⊤ := by
  unfold scale Ideal.div
  rw [if_neg (by norm_num), ← EReal.coe_inv]
  exact EReal.top_mul_coe_of_pos (by norm_num)

/-- Of entries whose magnitude is at most `g` the quotient by the scale lies within ±448 already, unless
    the scale is zero or infinite; and then the product with it is the same. So the clip changes nothing. -/
theorem clipped_eq (g y : EReal) (h : mag y ≤ g) : clipped g y = scaled g y := by
  unfold clipped scaled
  have h1 : y ≤ g := (le_max_left _ _).trans h
  have h2 : -y ≤ g := (le_max_right _ _).trans h
  induction g using EReal.rec with
  | bot =>
    have a : y = ⊥ := le_bot_iff.1 h1
    subst a
    exact absurd h2 (by simp)
  | top =>
    rw [scale_top]
    have e : Ideal.div y ⊤ = 0 := by unfold Ideal.div; rw [if_neg (by simp), EReal.inv_top, mul_zero]
    rw [e]
    have e2 : max ((-448 : ℝ) : EReal) 0 = 0 := max_eq_right (by exact_mod_cast (by norm_num : (-448 : ℝ) ≤ 0))
    have e3 : min ((448 : ℝ) : EReal) 0 = 0 := min_eq_right (by exact_mod_cast (by norm_num : (0 : ℝ) ≤ 448))
    rw [e2, e3]
  | coe g =>
    induction y using EReal.rec with
    | bot => exact absurd h2 (by simp)
    | top => exact absurd h1 (by simp)
    | coe y =>
      have k1 : y ≤ g := by exact_mod_cast h1
      have k2 : -y ≤ g := by exact_mod_cast h2
      rw [scale_real]
      by_cases hg : g = 0
      · subst hg
        simp
      · have hpos : 0 < g := lt_of_le_of_ne (by linarith) (Ne.symm hg)
        have hs : (g / 448 : ℝ) ≠ 0 := by positivity
        have e : Ideal.div (y : EReal) ((g / 448 : ℝ) : EReal) = ((y / (g / 448) : ℝ) : EReal) := by
          unfold Ideal.div
          rw [if_neg (by exact_mod_cast hs), ← EReal.coe_inv, ← EReal.coe_mul]; rfl
        have q1 : y / (g / 448) ≤ 448 := by rw [div_le_iff₀ (by positivity)]; linarith
        have q2 : -448 ≤ y / (g / 448) := by rw [le_div_iff₀ (by positivity)]; linarith
        rw [e, max_eq_right (by exact_mod_cast q2), min_eq_right (by exact_mod_cast q1)]

/-- The product of two matrices, entry by entry. -/
def prod {M K N : ℕ} (A : (⟨2, ![M, K]⟩ : Shape).Idx → EReal) (B : (⟨2, ![K, N]⟩ : Shape).Idx → EReal) : (⟨2, ![M, N]⟩ : Shape).Idx → EReal :=
  fun i => ∑ k : Fin K, A (ix2 (i 0) k) * B (ix2 k (i 1))

/-- Where the factors' rows and columns agree, the entries of two products agree. -/
theorem prod_congr {M M' K N N' : ℕ} {A : (⟨2, ![M, K]⟩ : Shape).Idx → EReal} {B : (⟨2, ![K, N]⟩ : Shape).Idx → EReal}
    {A' : (⟨2, ![M', K]⟩ : Shape).Idx → EReal} {B' : (⟨2, ![K, N']⟩ : Shape).Idx → EReal} {i : (⟨2, ![M, N]⟩ : Shape).Idx} {i' : (⟨2, ![M', N']⟩ : Shape).Idx}
    (hA : ∀ k, A (ix2 (i 0) k) = A' (ix2 (i' 0) k)) (hB : ∀ k, B (ix2 k (i 1)) = B' (ix2 k (i' 1))) : prod A B i = prod A' B' i' :=
  Finset.sum_congr rfl fun k _ => by rw [hA, hB]

/-- A block maximum over all but unit axes is bounded exactly by the bounds of all entries. -/
theorem largest_le {s t : Shape} {axes : List (Fin s.rank)} (x : FVec Ideal s .f32) (h : s.Reduces axes t) (hφ : FKind.Formats .f32)
    (ha : (0xFF800000#32 : BitVec 32) = FKind.maximumf.neutral .f32 hφ) (ht : ∀ b, t.size b = 1) (j : t.Idx) (b : EReal) :
    multiReduction .maximumf axes t x 0xFF800000#32 h hφ ha j ≤ b ↔ ∀ i, x i ≤ b := by
  rw [multiReduction_maximumf_eq_fold, Finset.filter_true_of_mem fun i _ => funext fun b => Fin.ext (by
    have := (h.drop i b).isLt; have := (j b).isLt; have := ht b; omega)]
  show Finset.fold max (Ideal.ofBits .f32 0xFF800000#32) x Finset.univ ≤ b ↔ _
  rw [Finset.fold_max_le, lit_bot]
  simp

/-- What holds of every entry holds of every entry of a reshaped array. -/
theorem forall_cast {s t : Shape} {α : Type} (x : s.Idx → α) (h : s.ShapeCasts t) (p : α → Prop) : (∀ i, p (shapeCast t x h i)) ↔ ∀ i, p (x i) :=
  (Shape.reshapeEquiv h).forall_congr_left.trans (by simp [shapeCast])

end Cert.RingGemm
-- ==== Proof.Blocks.lean ====
/-
# What each block holds over the extended reals

The devices' arguments are blocks of two whole matrices. Every block that a device computes, by whichever of the kernel's
products, is a block of the one product of the two.
-/
module

public import proofs.«01_k».proof.Proof.Whole
public import proofs.«01_k».proof.Proof.Numbers
public import Idealize.ShloMosaic.Lib.MatmulPlain
public import Idealize.ShloMosaic.Lib.Layout

@[expose] public section

noncomputable section

namespace Cert.RingGemm

open Cert.KernelIdeal Cert.KernelIdeal.Gen
open Idealize.ShloMosaic Idealize.ShloMosaic.TcCoe

/-- Each of the kernel's products is the product. -/
theorem wide_prod (A : FVec Ideal S1024x4096 .f32) (B : FVec Ideal S4096x512 .f32) :
    matmul dot_S1024x4096_S4096x512_S1024x512_1_0_0_1_n_n none A B (constant S1024x512 .f32 0x00000000#32) = prod A B := by
  funext i
  rw [eq_ix2 i]
  refine (Ideal.matmul_plain_apply (M := 1024) (K := 4096) (N := 512) none A B _ (i 0) (i 1)).trans ?_
  exact (congrArg (· + _) Ideal.ofBits_zero_f32).trans (zero_add _)
theorem half_prod (A : FVec Ideal S1024x4096 .f32) (B : FVec Ideal S4096x256 .f32) :
    matmul dot_S1024x4096_S4096x256_S1024x256_1_0_0_1_n_n none A B (constant S1024x256 .f32 0x00000000#32) = prod A B := by
  funext i
  rw [eq_ix2 i]
  refine (Ideal.matmul_plain_apply (M := 1024) (K := 4096) (N := 256) none A B _ (i 0) (i 1)).trans ?_
  exact (congrArg (· + _) Ideal.ofBits_zero_f32).trans (zero_add _)

/-- A half block read back from a slot is the half block. -/
theorem cast_slot {α : Type} (V : S4096x256.Idx → α) (h : S1x4096x256.ShapeCasts S4096x256) :
    shapeCast S4096x256 (up squeezes_S1x4096x256_S4096x256 V) h = V := by
  funext j
  show V ((Shape.reshapeEquiv _).symm (Shape.reshapeEquiv _ j)) = V j
  rw [Equiv.symm_apply_apply]
/-- A product put in a slot and sent is the product. -/
theorem sent_cast (V : S1024x256.Idx → Elt Ideal .f32) (h : S1024x256.ShapeCasts S1x1024x256) :
    sent (F := Ideal) (shapeCast S1x1024x256 V h) = V := by
  funext j
  show V (Shape.reshapeEquiv _ (Shape.reshapeEquiv _ j)) = V j
  rw [Shape.reshapeEquiv_reshapeEquiv, Shape.reshapeEquiv_self]

variable (A : S1024x4096.Idx → Elt Ideal .f32)

theorem pay2_eq (B : S4096x512.Idx → Elt Ideal .f32) : k0_pay2 (F := Ideal) A B = prod A B := by
  unfold k0_pay2; simp only [shapeCast_self]; exact wide_prod A B
theorem pay5_eq (V : S4096x256.Idx → Elt Ideal .f32) : sent (F := Ideal) (k0_pay5 (F := Ideal) A (slotW V)) = prod A V := by
  unfold k0_pay5; simp only [shapeCast_self, cast_slot, half_prod]; exact sent_cast _ _
theorem pay7_eq (V : S4096x256.Idx → Elt Ideal .f32) : sent (F := Ideal) (k0_pay7 (F := Ideal) A (slotW V)) = prod A V := by
  unfold k0_pay7; simp only [shapeCast_self, cast_slot, half_prod]; exact sent_cast _ _
theorem pay10_eq (V : S4096x256.Idx → Elt Ideal .f32) : sent (F := Ideal) (k0_pay10 (F := Ideal) (k0_pay9 A) (slotW V)) = prod A V := by
  unfold k0_pay10 k0_pay9; simp only [shapeCast_self, cast_slot, half_prod]; exact sent_cast _ _
theorem pay12_eq (V : S4096x256.Idx → Elt Ideal .f32) : sent (F := Ideal) (k0_pay12 (F := Ideal) A (slotW V)) = prod A V := by
  unfold k0_pay12; simp only [shapeCast_self, cast_slot, half_prod]; exact sent_cast _ _
theorem pay14_eq (V : S4096x256.Idx → Elt Ideal .f32) : sent (F := Ideal) (k0_pay14 (F := Ideal) A (slotW V)) = prod A V := by
  unfold k0_pay14; simp only [shapeCast_self, cast_slot, half_prod]; exact sent_cast _ _
theorem pay16_eq (V : S4096x256.Idx → Elt Ideal .f32) : sent (F := Ideal) (k0_pay16 (F := Ideal) A (slotW V)) = prod A V := by
  unfold k0_pay16; simp only [shapeCast_self, cast_slot, half_prod]; exact sent_cast _ _

/-! ## The arguments as blocks -/

variable (m : (ℓ : Loc nD τ sig) → Buf (Elt Ideal) ℓ) (X : (⟨2, ![4096, 4096]⟩ : Shape).Idx → EReal) (W : (⟨2, ![4096, 2048]⟩ : Shape).Idx → EReal)

/-- The devices' arguments are the row blocks of `X` and the column blocks of `W`. -/
structure Cut : Prop where
  rows : ∀ c : Dev nD, m ((c : Thread nD τ).loc main_arg0) = Layout.block ⟨2, ![1024, 4096]⟩ ⟨2, ![4096, 4096]⟩ 0 4 c X
  cols : ∀ c : Dev nD, m ((c : Thread nD τ).loc main_arg1) = Layout.block ⟨2, ![4096, 512]⟩ ⟨2, ![4096, 2048]⟩ 1 4 c W

variable {m X W} (H : Cut m X W) (c d : Dev nD)

theorem lt_row (c : Dev nD) (r : Fin 1024) : 1024 * c.val + r.val < 4096 := by have := c.isLt; have : nD = 4 := rfl; omega
theorem lt_col (d : Dev nD) (n : Fin 512) : 512 * d.val + n.val < 2048 := by have := d.isLt; have : nD = 4 := rfl; omega

/-- A row of device `c`, and a column of device `d`, in the whole matrices. -/
def rowOf (c : Dev nD) (r : Fin 1024) : Fin 4096 := ⟨1024 * c.val + r.val, lt_row c r⟩
def colOf (d : Dev nD) (n : Fin 512) : Fin 2048 := ⟨512 * d.val + n.val, lt_col d n⟩
/-- A column of a left or right half. -/
def loCol (n : Fin 256) : Fin 512 := ⟨n.val, by omega⟩
def hiCol (n : Fin 256) : Fin 512 := ⟨256 + n.val, by omega⟩

theorem emb_x (j : S1024x4096.Idx) : (win0_0.blk (0 : Fin 1)).view.emb j = j := by
  funext a; apply Fin.ext
  match a with
  | ⟨0, _⟩ => show 0 * 1024 + 1 * (j 0).val = (j 0).val; omega
  | ⟨1, _⟩ => show 0 * 4096 + 1 * (j 1).val = (j 1).val; omega
theorem emb_w (j : S4096x512.Idx) : (win0_1.blk (0 : Fin 1)).view.emb j = j := by
  funext a; apply Fin.ext
  match a with
  | ⟨0, _⟩ => show 0 * 4096 + 1 * (j 0).val = (j 0).val; omega
  | ⟨1, _⟩ => show 0 * 512 + 1 * (j 1).val = (j 1).val; omega

include H in
theorem xv_at (r : Fin 1024) (k : Fin 4096) : xv m c (ix2 r k) = X (ix2 (rowOf c r) k) := by
  show m ((c : Thread nD τ).loc main_arg0) ((win0_0.blk (0 : Fin 1)).view.emb (ix2 r k)) = _
  rw [emb_x, H.rows c]
  show X _ = X _
  congr 1
  funext a; apply Fin.ext
  match a with
  | ⟨0, _⟩ => show c.val * 1024 + r.val = 1024 * c.val + r.val; omega
  | ⟨1, _⟩ => rfl
include H in
theorem wv_at (k : Fin 4096) (n : Fin 512) : wv m d (ix2 k n) = W (ix2 k (colOf d n)) := by
  show m ((d : Thread nD τ).loc main_arg1) ((win0_1.blk (0 : Fin 1)).view.emb (ix2 k n)) = _
  rw [emb_w, H.cols d]
  show W _ = W _
  congr 1
  funext a; apply Fin.ext
  match a with
  | ⟨0, _⟩ => rfl
  | ⟨1, _⟩ => show d.val * 512 + n.val = 512 * d.val + n.val; omega
include H in
theorem wL_at (k : Fin 4096) (n : Fin 256) : wL m d (ix2 k n) = W (ix2 k (colOf d (loCol n))) := by
  rw [← wv_at H]
  show wv m d (wLo.view.emb (ix2 k n)) = _
  congr 1
  funext a; apply Fin.ext
  match a with
  | ⟨0, _⟩ => show 0 + 1 * k.val = k.val; omega
  | ⟨1, _⟩ => show 0 + 1 * n.val = n.val; omega
include H in
theorem wH_at (k : Fin 4096) (n : Fin 256) : wH m d (ix2 k n) = W (ix2 k (colOf d (hiCol n))) := by
  rw [← wv_at H]
  show wv m d (wHi.view.emb (ix2 k n)) = _
  congr 1
  funext a; apply Fin.ext
  match a with
  | ⟨0, _⟩ => show 0 + 1 * k.val = k.val; omega
  | ⟨1, _⟩ => show 256 + 1 * n.val = 256 + n.val; omega

/-! ## The products as blocks of the product -/

include H in
theorem own_at (j : S1024x512.Idx) : prOwn m c j = prod X W (ix2 (rowOf c (j 0)) (colOf c (j 1))) := by
  unfold prOwn
  rw [pay2_eq]
  exact prod_congr (fun k => xv_at H c _ k) (fun k => wv_at H c k _)
include H in
theorem low_at (j : S1024x256.Idx) : prod (xv m c) (wL m d) j = prod X W (ix2 (rowOf c (j 0)) (colOf d (loCol (j 1)))) :=
  prod_congr (fun k => xv_at H c _ k) (fun k => wL_at H d k _)
include H in
theorem high_at (j : S1024x256.Idx) : prod (xv m c) (wH m d) j = prod X W (ix2 (rowOf c (j 0)) (colOf d (hiCol (j 1)))) :=
  prod_congr (fun k => xv_at H c _ k) (fun k => wH_at H d k _)

/-- The half product that device `e` sends to device `c`, on the left and on the right. -/
theorem lowP_eq (e : Dev nD) (he : e ≠ c) : sent (lowP m c e) = prod (xv m e) (wL m c) := by
  have hc : (e = rt c ∧ lf e = c) ∨ (e = op c ∧ op e = c) ∨ (e = lf c ∧ rt e = c) := by revert he; revert c e; decide
  unfold lowP
  rcases hc with ⟨h, h'⟩ | ⟨h, h'⟩ | ⟨h, h'⟩
  · rw [if_pos h]; unfold prLL; rw [h', pay5_eq]
  · rw [if_neg (by rw [h]; exact op_ne_rt c), if_pos h]; unfold prOL; rw [h', pay10_eq]
  · rw [if_neg (by rw [h]; exact lf_ne_rt c), if_neg (by rw [h]; exact lf_ne_op c)]; unfold prRL; rw [h', pay14_eq]
theorem highP_eq (e : Dev nD) (he : e ≠ c) : sent (highP m c e) = prod (xv m e) (wH m c) := by
  have hc : (e = rt c ∧ lf e = c) ∨ (e = op c ∧ op e = c) ∨ (e = lf c ∧ rt e = c) := by revert he; revert c e; decide
  unfold highP
  rcases hc with ⟨h, h'⟩ | ⟨h, h'⟩ | ⟨h, h'⟩
  · rw [if_pos h]; unfold prLH; rw [h', pay16_eq]
  · rw [if_neg (by rw [h]; exact op_ne_rt c), if_pos h]; unfold prOH; rw [h', pay12_eq]
  · rw [if_neg (by rw [h]; exact lf_ne_rt c), if_neg (by rw [h]; exact lf_ne_op c)]; unfold prRH; rw [h', pay7_eq]

include H in
/-- What a device gathers is its columns of the product. -/
theorem out_at (i : S4096x512.Idx) : OUT m c i = prod X W (ix2 (i 0) (colOf c (i 1))) := by
  have h0 : (i 0).val < 4096 := (i 0).isLt
  have h1 : (i 1).val < 512 := (i 1).isLt
  have hr : ∀ h, rowOf ⟨(i 0).val / 1024, h⟩ ⟨(i 0).val % 1024, Nat.mod_lt _ (by decide)⟩ = i 0 := fun h => Fin.ext (show 1024 * ((i 0).val / 1024) + (i 0).val % 1024 = (i 0).val by omega)
  unfold OUT
  split
  next hc =>
    rw [own_at H]
    have : c = ⟨(i 0).val / 1024, Nat.div_lt_of_lt_mul (i 0).isLt⟩ := Fin.ext hc.symm
    show prod X W (ix2 (rowOf c ⟨(i 0).val % 1024, _⟩) (colOf c (i 1))) = _
    rw [show rowOf c ⟨(i 0).val % 1024, Nat.mod_lt _ (by decide)⟩ = i 0 from (congrArg (fun e => rowOf e _) this).trans (hr _)]
  next hc =>
    have hne : (⟨(i 0).val / 1024, Nat.div_lt_of_lt_mul (i 0).isLt⟩ : Dev nD) ≠ c := fun h => hc (congrArg Fin.val h)
    split
    next hl =>
      rw [lowP_eq _ _ hne, low_at H]
      show prod X W (ix2 (rowOf _ ⟨(i 0).val % 1024, _⟩) (colOf c (loCol ⟨(i 1).val % 256, _⟩))) = _
      rw [hr, show loCol ⟨(i 1).val % 256, Nat.mod_lt _ (by decide)⟩ = i 1 from Fin.ext (show (i 1).val % 256 = (i 1).val by omega)]
    next hl =>
      rw [highP_eq _ _ hne, high_at H]
      show prod X W (ix2 (rowOf _ ⟨(i 0).val % 1024, _⟩) (colOf c (hiCol ⟨(i 1).val % 256, _⟩))) = _
      rw [hr, show hiCol ⟨(i 1).val % 256, Nat.mod_lt _ (by decide)⟩ = i 1 from Fin.ext (show 256 + (i 1).val % 256 = (i 1).val by omega)]

end Cert.RingGemm
-- ==== Proof.Peak.lean ====
/-
# The largest magnitude

What the devices gather as their largest magnitude is bounded exactly by the bounds of every entry of the whole product.
-/
module

public import proofs.«01_k».proof.Proof.Blocks

@[expose] public section

noncomputable section

namespace Cert.RingGemm

open Cert.KernelIdeal Cert.KernelIdeal.Gen
open Idealize.ShloMosaic Idealize.ShloMosaic.TcCoe

/-! ## One block -/

/-- The one entry read of a block maximum. -/
theorem peak {s : Shape} {axes : List (Fin s.rank)} (x : FVec Ideal s .f32) (h : s.Reduces axes S1) (hφ : FKind.Formats .f32)
    (ha : (0xFF800000#32 : BitVec 32) = FKind.maximumf.neutral .f32 hφ) (hc : S1.ShapeCasts S1x1x1) (pos : Fin 3 → ℕ) (hp : ∀ a, pos a < S1x1x1.size a) (b : EReal) :
    extractAt pos (shapeCast S1x1x1 (multiReduction .maximumf axes S1 x 0xFF800000#32 h hφ ha) hc) hp ≤ b ↔ ∀ i, x i ≤ b :=
  largest_le x h hφ ha (by decide) _ b
/-- The same of a reshaped block of magnitudes. -/
theorem peak_cast {s t : Shape} {axes : List (Fin t.rank)} (V : FVec Ideal s .f32) (hs : s.ShapeCasts t) (h : t.Reduces axes S1) (hφ : FKind.Formats .f32)
    (ha : (0xFF800000#32 : BitVec 32) = FKind.maximumf.neutral .f32 hφ) (hc : S1.ShapeCasts S1x1x1) (pos : Fin 3 → ℕ) (hp : ∀ a, pos a < S1x1x1.size a) (b : EReal) :
    extractAt pos (shapeCast S1x1x1 (multiReduction .maximumf axes S1 (shapeCast t (absf V) hs) 0xFF800000#32 h hφ ha) hc) hp ≤ b ↔ ∀ i, mag (V i) ≤ b :=
  (peak _ _ _ _ _ _ _ _).trans (forall_cast (absf V) hs (· ≤ b))

theorem peak_own (V : S1024x512.Idx → EReal) (b : EReal) : k0_pay4 (F := Ideal) (k0_pay3 V) ≤ b ↔ ∀ i, mag (V i) ≤ b := by
  unfold k0_pay4 k0_pay3
  rw [shapeCast_self]
  exact peak_cast V _ _ _ _ _ _ _ b
theorem peak6 (V : S1x1024x256.Idx → EReal) (b : EReal) : k0_pay6 (F := Ideal) V ≤ b ↔ ∀ i, mag (sent (F := Ideal) V i) ≤ b := by
  unfold k0_pay6
  exact peak_cast (sent (F := Ideal) V) _ _ _ _ _ _ _ b
theorem peak8 (V : S1x1024x256.Idx → EReal) (b : EReal) : k0_pay8 (F := Ideal) V ≤ b ↔ ∀ i, mag (sent (F := Ideal) V i) ≤ b := by
  unfold k0_pay8
  exact peak_cast (sent (F := Ideal) V) _ _ _ _ _ _ _ b
theorem peak11 (V : S1x1024x256.Idx → EReal) (b : EReal) : k0_pay11 (F := Ideal) V ≤ b ↔ ∀ i, mag (sent (F := Ideal) V i) ≤ b := by
  unfold k0_pay11
  exact peak_cast (sent (F := Ideal) V) _ _ _ _ _ _ _ b
theorem peak13 (V : S1x1024x256.Idx → EReal) (b : EReal) : k0_pay13 (F := Ideal) V ≤ b ↔ ∀ i, mag (sent (F := Ideal) V i) ≤ b := by
  unfold k0_pay13
  exact peak_cast (sent (F := Ideal) V) _ _ _ _ _ _ _ b
theorem peak15 (V : S1x1024x256.Idx → EReal) (b : EReal) : k0_pay15 (F := Ideal) V ≤ b ↔ ∀ i, mag (sent (F := Ideal) V i) ≤ b := by
  unfold k0_pay15
  exact peak_cast (sent (F := Ideal) V) _ _ _ _ _ _ _ b
theorem peak17 (V : S1x1024x256.Idx → EReal) (b : EReal) : k0_pay17 (F := Ideal) V ≤ b ↔ ∀ i, mag (sent (F := Ideal) V i) ≤ b := by
  unfold k0_pay17
  exact peak_cast (sent (F := Ideal) V) _ _ _ _ _ _ _ b

/-! ## One device -/

/-- The larger of a device's seven block maxima, and the block that it sends of it. -/
theorem pay18_eq (x₁ x₂ x₃ x₄ x₅ x₆ x₇ : EReal) : k0_pay18 (F := Ideal) x₁ x₂ x₃ x₄ x₅ x₆ x₇ = max (max (max (max (max (max x₁ x₂) x₃) x₄) x₅) x₆) x₇ := rfl
theorem pay19_eq (x₁ x₂ x₃ x₄ x₅ x₆ x₇ : EReal) : k0_pay19 (F := Ideal) x₁ x₂ x₃ x₄ x₅ x₆ x₇ = fun _ => k0_pay18 (F := Ideal) x₁ x₂ x₃ x₄ x₅ x₆ x₇ := by
  rfl
theorem pay20_eq (x y z : EReal) : k0_pay20 (F := Ideal) x (fun _ => y) (fun _ => z) = max (max x y) z := rfl
theorem pay21_eq (x y : EReal) : k0_pay21 (F := Ideal) x (fun _ => y) = max x y := rfl
theorem four_devs : ∀ c d : Dev nD, d = c ∨ d = lf c ∨ d = rt c ∨ d = op c := by decide

variable (m : (ℓ : Loc nD τ sig) → Buf (Elt Ideal) ℓ)

/-- What a device takes the largest magnitude of: its own block and the six half blocks it sends. -/
theorem amax_le (c : Dev nD) (b : EReal) : amax m c ≤ b ↔
    (∀ i, mag (prOwn m c i) ≤ b) ∧ (∀ i, mag (prod (xv m c) (wL m (lf c)) i) ≤ b) ∧ (∀ i, mag (prod (xv m c) (wH m (rt c)) i) ≤ b) ∧
    (∀ i, mag (prod (xv m c) (wL m (op c)) i) ≤ b) ∧ (∀ i, mag (prod (xv m c) (wH m (op c)) i) ≤ b) ∧
    (∀ i, mag (prod (xv m c) (wL m (rt c)) i) ≤ b) ∧ (∀ i, mag (prod (xv m c) (wH m (lf c)) i) ≤ b) := by
  unfold amax
  rw [pay18_eq]
  simp only [max_le_iff]
  rw [peak_own, peak6, peak8, peak11, peak13, peak15, peak17]
  unfold prLL prRH prOL prOH prRL prLH
  rw [pay5_eq, pay7_eq, pay10_eq, pay12_eq, pay14_eq, pay16_eq]
  simp only [and_assoc]

/-- The entry a device reads of another's block of magnitudes is that device's largest. -/
theorem corner_eq (c : Dev nD) : corner (amaxB m c) = fun _ => amax m c := by
  unfold amaxB amax
  rw [pay19_eq]
  rfl

theorem gmax_eq (c : Dev nD) : gmax m c = max (max (max (amax m c) (amax m (rt c))) (amax m (op c))) (amax m (lf c)) := by
  unfold gmax
  rw [corner_eq, corner_eq, corner_eq, pay20_eq, pay21_eq]

/-! ## All devices -/

variable {m} {X : (⟨2, ![4096, 4096]⟩ : Shape).Idx → EReal} {W : (⟨2, ![4096, 2048]⟩ : Shape).Idx → EReal} (H : Cut m X W)

/-- The columns of a device are its left and its right half. -/
theorem col_half (n : Fin 512) : (∃ k, loCol k = n) ∨ (∃ k, hiCol k = n) := by
  rcases lt_or_ge n.val 256 with h | h
  · exact .inl ⟨⟨n.val, h⟩, rfl⟩
  · exact .inr ⟨⟨n.val - 256, by omega⟩, Fin.ext (by show 256 + (n.val - 256) = n.val; omega)⟩

include H in
/-- A device's largest magnitude is that of all the columns of its rows of the product. -/
theorem amax_rows (c : Dev nD) (b : EReal) : amax m c ≤ b ↔ ∀ (d : Dev nD) (r : Fin 1024) (n : Fin 512), mag (prod X W (ix2 (rowOf c r) (colOf d n))) ≤ b := by
  rw [amax_le]
  constructor
  · rintro ⟨h1, h2, h3, h4, h5, h6, h7⟩ d r n
    rcases four_devs c d with rfl | rfl | rfl | rfl
    · have := h1 (ix2 r n); rwa [own_at H] at this
    · rcases col_half n with ⟨k, rfl⟩ | ⟨k, rfl⟩
      · have := h2 (ix2 r k); rwa [low_at H] at this
      · have := h7 (ix2 r k); rwa [high_at H] at this
    · rcases col_half n with ⟨k, rfl⟩ | ⟨k, rfl⟩
      · have := h6 (ix2 r k); rwa [low_at H] at this
      · have := h3 (ix2 r k); rwa [high_at H] at this
    · rcases col_half n with ⟨k, rfl⟩ | ⟨k, rfl⟩
      · have := h4 (ix2 r k); rwa [low_at H] at this
      · have := h5 (ix2 r k); rwa [high_at H] at this
  · intro h
    refine ⟨fun i => ?_, fun i => ?_, fun i => ?_, fun i => ?_, fun i => ?_, fun i => ?_, fun i => ?_⟩
    · rw [own_at H]; exact h _ _ _
    all_goals first
      | (rw [low_at H]; exact h _ _ _)
      | (rw [high_at H]; exact h _ _ _)

include H in
/-- The largest magnitude that a device gathers is that of the whole product. -/
theorem gmax_le (c : Dev nD) (b : EReal) : gmax m c ≤ b ↔ ∀ i, mag (prod X W i) ≤ b := by
  rw [gmax_eq]
  simp only [max_le_iff]
  rw [amax_rows H, amax_rows H, amax_rows H, amax_rows H]
  constructor
  · rintro ⟨⟨⟨h1, h2⟩, h3⟩, h4⟩ i
    have i0 : (i 0).val < 4096 := (i 0).isLt
    have i1 : (i 1).val < 2048 := (i 1).isLt
    have key : ∀ e d : Dev nD, ∀ r n, mag (prod X W (ix2 (rowOf e r) (colOf d n))) ≤ b := by
      intro e d r n
      rcases four_devs c e with rfl | rfl | rfl | rfl
      · exact h1 d r n
      · exact h4 d r n
      · exact h2 d r n
      · exact h3 d r n
    have := key ⟨(i 0).val / 1024, by show _ < 4; omega⟩ ⟨(i 1).val / 512, by show _ < 4; omega⟩ ⟨(i 0).val % 1024, by omega⟩ ⟨(i 1).val % 512, by omega⟩
    have e : ix2 (rowOf ⟨(i 0).val / 1024, by show _ < 4; omega⟩ ⟨(i 0).val % 1024, by omega⟩) (colOf ⟨(i 1).val / 512, by show _ < 4; omega⟩ ⟨(i 1).val % 512, by omega⟩) = i := by
      funext a; apply Fin.ext
      match a with
      | ⟨0, _⟩ => show 1024 * ((i 0).val / 1024) + (i 0).val % 1024 = (i 0).val; omega
      | ⟨1, _⟩ => show 512 * ((i 1).val / 512) + (i 1).val % 512 = (i 1).val; omega
    rwa [e] at this
  · intro h
    exact ⟨⟨⟨fun _ _ _ => h _, fun _ _ _ => h _⟩, fun _ _ _ => h _⟩, fun _ _ _ => h _⟩

end Cert.RingGemm
-- ==== Proof.Final.lean ====
/-
# The output array after a run

The one grid point's block of the output window is the whole array, so the array ends holding what the body leaves in it.
-/
module

public import proofs.«01_k».proof.Proof.Launch
public import Idealize.ShloMosaic.Lib.Pipeline.Value

@[expose] public section

noncomputable section

namespace Cert.RingGemm

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

theorem o_at_zero : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- An index of the output window's block is the same index of the array. -/
theorem emb_o (t : Fin cfg0.N) (j : S4096x512.Idx) : ((cfg0.win 2).blk t).view.emb j = j := by
  have h := o_at_zero t
  funext a; apply Fin.ext
  match a with
  | ⟨0, _⟩ => show win0_2.index t (0 : Fin 2) * 4096 + 1 * (j 0).val = (j 0).val; rw [h.1]; omega
  | ⟨1, _⟩ => show win0_2.index t (1 : Fin 2) * 512 + 1 * (j 1).val = (j 1).val; rw [h.2]; omega

/-- The output after the run holds what the body computes. -/
theorem final_o : finalA m ρ c (2 : Fin 3) = outV m c :=
  (dats m ρ 0 c).arrAt_eq_of_cover 2 (outV m c)
    (fun t _ => funext fun j => by
      show outV m c j = outV m c (((cfg0.win 2).blk t).view.emb j)
      rw [emb_o])
    (fun i => ⟨t₀, flush0_2 _, by
      have h := ((cfg0.win 2).blk t₀).view.emb_mem_set i
      rwa [emb_o] at h⟩)

end Cert.RingGemm
-- ==== Proof.Equation.lean ====
/-
# What the reference computes, and the equation

The reference scales every entry of the product by its largest magnitude and clips the quotient. The devices leave the clip out:
no quotient is beyond it. So each device ends with its columns of the reference's result.
-/
module

public import proofs.«01_k».proof.Proof.Peak
public import proofs.«01_k».proof.Proof.Final
public import proofs.«01_k».proof.Proof.Gen.ReferenceIdeal.Value

@[expose] public section

noncomputable section

namespace Cert.RingGemm

open Idealize.ShloMosaic Idealize.ShloMosaic.TcCoe

section Ref

open Cert.ReferenceIdeal Cert.ReferenceIdeal.Gen

/-- The reference's product. -/
theorem whole_prod (A : FVec Ideal S4096x4096 .f32) (B : FVec Ideal S4096x2048 .f32) :
    matmul dot_S4096x4096_S4096x2048_S4096x2048_1_0_0_1_n_n none A B (constant S4096x2048 .f32 0x00000000#32) = prod A B := by
  funext i
  rw [eq_ix2 i]
  refine (Ideal.matmul_plain_apply (M := 4096) (K := 4096) (N := 2048) none A B _ (i 0) (i 1)).trans ?_
  exact (congrArg (· + _) Ideal.ofBits_zero_f32).trans (zero_add _)

/-- What follows the product in the reference: entries scaled by the largest magnitude, clipped. -/
theorem ref_scale (Y : FVec Ideal S4096x2048 .f32) (g : EReal) (i : S4096x2048.Idx) :
    mulf (extf .f32 (truncf .fp8e4m3 (minimumf (broadcast S4096x2048 (Scalar.ofBits (F := Ideal) .f32 0x43E00000#32))
      (maximumf (broadcast S4096x2048 (Scalar.ofBits (F := Ideal) .f32 0xC3E00000#32))
        (divf Y (broadcast S4096x2048 (Scalar.divf (F := Ideal) (φ := .f32) g (Scalar.ofBits .f32 0x43E00000#32)))))) bitsLt_fp8e4m3_f32) bitsLt_fp8e4m3_f32)
      (broadcast S4096x2048 (Scalar.divf (F := Ideal) (φ := .f32) g (Scalar.ofBits .f32 0x43E00000#32))) i = clipped g (Y i) := by
  unfold clipped scale
  rw [← lit_448, ← lit_neg448]
  rfl

/-- The reference's result, with the largest magnitude known by its upper bounds. -/
theorem ref_value (A : FVec Ideal S4096x4096 .f32) (B : FVec Ideal S4096x2048 .f32) :
    ∃ g : EReal, (∀ b, g ≤ b ↔ ∀ i, mag (prod A B i) ≤ b) ∧ ∀ i, k0_pay1 (F := Ideal) A B i = clipped g (prod A B i) := by
  refine ⟨_, fun b => peak_cast (prod A B) shapeCasts_S4096x2048_S1x4096x2048 reduces_S1x4096x2048_S1 (.inl rfl) rfl shapeCasts_S1_S1x1x1 ![0, 0, 0] inpos_S1x1x1_p0_0_0 b,
    fun i => ?_⟩
  unfold k0_pay1
  rw [whole_prod]
  exact ref_scale _ _ i

end Ref

section Ker

open Cert.KernelIdeal Cert.KernelIdeal.Gen

/-- The device's last step: entries scaled by the largest magnitude. -/
theorem pay1_eq (g : EReal) (Y : S4096x512.Idx → EReal) (i : S4096x512.Idx) : k0_pay1 (F := Ideal) g Y i = scaled g (Y i) := by
  unfold k0_pay1 scaled scale
  rw [shapeCast_self, ← lit_448]
  rfl

variable (m : (ℓ : Loc nD τ sig) → Buf (Elt Ideal) ℓ) (X : (⟨2, ![4096, 4096]⟩ : Shape).Idx → EReal) (W : (⟨2, ![4096, 2048]⟩ : Shape).Idx → EReal)

/-- Each device computes its columns of the reference's result. -/
theorem equation (hx : ∀ d : Dev nD, m ((d : Thread nD τ).loc main_arg0) = Layout.block ⟨2, ![1024, 4096]⟩ ⟨2, ![4096, 4096]⟩ 0 4 d X)
    (hw : ∀ d : Dev nD, m ((d : Thread nD τ).loc main_arg1) = Layout.block ⟨2, ![4096, 512]⟩ ⟨2, ![4096, 2048]⟩ 1 4 d W) (c : Dev nD) :
    outV m c = Layout.block ⟨2, ![4096, 512]⟩ ⟨2, ![4096, 2048]⟩ 1 4 c (Cert.ReferenceIdeal.Value.G2 (F := Ideal) X W) := by
  have H : Cut m X W := ⟨hx, hw⟩
  obtain ⟨g, hg, hv⟩ := ref_value X W
  have e : gmax m c = g := eq_of_forall_ge_iff fun b => (gmax_le H c b).trans (hg b).symm
  funext i
  rw [Layout.block_apply]
  refine Eq.trans ?_ (hv _).symm
  rw [clipped_eq _ _ ((hg g).1 le_rfl _)]
  unfold outV
  rw [pay1_eq, e, out_at H]
  refine congrArg (fun j => scaled g (prod X W j)) ?_
  funext a; apply Fin.ext
  match a with
  | ⟨0, _⟩ => rfl
  | ⟨1, _⟩ => show 512 * c.val + (i 1).val = c.val * 512 + (i 1).val; omega

end Ker

end Cert.RingGemm
-- ==== Proof.lean ====
/-
# The certificate

Every device's run of the kernel ends, its arguments unchanged and its semaphores at zero, over the machine's floats and
over the extended reals; so does the reference's run. Over the extended reals each device ends with its block of columns
of the reference's result.
-/
module

public import proofs.«01_k».proof.Defs
public import proofs.«01_k».proof.Proof.SameText
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The kernel at the machine's floats: every run ends, arguments kept, semaphores at zero. -/
theorem frame_kernel : Cert.quiescent_Kernel (hKernel := Cert.Kernel.Gen.facts) := fun m ρ _ => Cert.RingGemm.run_kernel (F := Bits) m ρ

/-- The same over the extended reals. -/
theorem frame_ideal : Cert.quiescent_KernelIdeal (hKernelIdeal := Cert.KernelIdeal.Gen.facts) := fun m ρ _ =>
  (θ_run (Cert.KernelIdeal.defs (F := Ideal)) _ _).mono
    (fun _ h => ⟨fun c => ⟨(h.1 c (0 : Fin 3)).trans (Cert.RingGemm.final_x m ρ c), (h.1 c (1 : Fin 3)).trans (Cert.RingGemm.final_w m ρ c)⟩, h.2⟩)
    (Cert.RingGemm.run_main (F := Ideal) m ρ)

/-- The reference's run. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => ⟨Cert.ReferenceIdeal.Value.kept_main_arg0 m r h.1 c, Cert.ReferenceIdeal.Value.kept_main_arg1 m r h.1 c⟩, h.2⟩)
    (Cert.ReferenceIdeal.Gen.run_main_quiescent m ρ)

/-- The kernel's value: each device ends with its columns of the reference's result. -/
theorem values : Cert.algebraic_KernelIdeal_ReferenceIdeal (hKernelIdeal := Cert.KernelIdeal.Gen.facts) (hReferenceIdeal := Cert.ReferenceIdeal.Gen.facts) :=
  fun m ρ m' ρ' _ hm =>
  ⟨Cert.ReferenceIdeal.Value.G2 (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h.1 c (2 : Fin 3)).trans ((Cert.RingGemm.final_o m ρ c).trans (Cert.RingGemm.equation m _ _ (fun d => (hm d).1) (fun d => (hm d).2) c)),
        (h.1 c (0 : Fin 3)).trans (Cert.RingGemm.final_x m ρ c), (h.1 c (1 : Fin 3)).trans (Cert.RingGemm.final_w m ρ c)⟩)
      (Cert.RingGemm.run_main (F := Ideal) m ρ),
    (θ_run (Cert.ReferenceIdeal.defs (F := Ideal)) _ _).mono (fun _ h => h 0) (Cert.ReferenceIdeal.Value.run m' ρ')⟩

theorem claim : Cert.Claim := ⟨Cert.Kernel.Gen.facts, Cert.KernelIdeal.Gen.facts, Cert.ReferenceIdeal.Gen.facts, frame_kernel, frame_ideal, frame_reference, trivial, values⟩

end Cert.Proof

end
